-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x64x8x2x128 Cert.KernelIdeal.S2x64x8x1x128
  ∧ IdealRules.bf16_pair.HalfStatement Cert.KernelIdeal.S512x128
  ∧ IdealRules.bf16_pair.Statement Cert.KernelIdeal.S1x64x8x2x128 Cert.KernelIdeal.S1x64x8x1x128
  ∧ IdealRules.bf16_pair.Statement Cert.KernelIdeal.S1x1x8x2x128 Cert.KernelIdeal.S1x1x8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x8192 : Shape := ⟨3, ![8, 1, 8192]⟩
abbrev S11264x4096 : Shape := ⟨2, ![11264, 4096]⟩
abbrev S11264x128 : Shape := ⟨2, ![11264, 128]⟩
abbrev S5632 : Shape := ⟨1, ![5632]⟩
abbrev S_ : Shape := ⟨0, ![]⟩
abbrev S8x8192 : Shape := ⟨2, ![8, 8192]⟩
abbrev S22x2x128 : Shape := ⟨3, ![22, 2, 128]⟩
abbrev S1 : Shape := ⟨1, ![1]⟩
abbrev S8x11264 : Shape := ⟨2, ![8, 11264]⟩
abbrev S1024x4096 : Shape := ⟨2, ![1024, 4096]⟩
abbrev S1024x128 : Shape := ⟨2, ![1024, 128]⟩
abbrev S32x32x1024 : Shape := ⟨3, ![32, 32, 1024]⟩
abbrev S2x64x8x128 : Shape := ⟨4, ![2, 64, 8, 128]⟩
abbrev S22x8x512 : Shape := ⟨3, ![22, 8, 512]⟩
abbrev S8x128 : Shape := ⟨2, ![8, 128]⟩
abbrev S8x256 : Shape := ⟨2, ![8, 256]⟩
abbrev S256x256 : Shape := ⟨2, ![256, 256]⟩
abbrev S256x1024 : Shape := ⟨2, ![256, 1024]⟩
abbrev S8x1024 : Shape := ⟨2, ![8, 1024]⟩
abbrev S1x8x1024 : Shape := ⟨3, ![1, 8, 1024]⟩
abbrev S1x128 : Shape := ⟨2, ![1, 128]⟩
abbrev S256x128 : Shape := ⟨2, ![256, 128]⟩
abbrev S1x2x128 : Shape := ⟨3, ![1, 2, 128]⟩
abbrev S2x128 : Shape := ⟨2, ![2, 128]⟩
abbrev S2x128x1 : Shape := ⟨3, ![2, 128, 1]⟩
abbrev S128x128 : Shape := ⟨2, ![128, 128]⟩
abbrev S512x128 : Shape := ⟨2, ![512, 128]⟩
abbrev S64x8x128 : Shape := ⟨3, ![64, 8, 128]⟩
abbrev S1x8x128 : Shape := ⟨3, ![1, 8, 128]⟩
abbrev S64x4x128 : Shape := ⟨3, ![64, 4, 128]⟩
abbrev S1x64x8x128 : Shape := ⟨4, ![1, 64, 8, 128]⟩
abbrev S32x256 : Shape := ⟨2, ![32, 256]⟩
abbrev S64x128 : Shape := ⟨2, ![64, 128]⟩
abbrev S64x1x128 : Shape := ⟨3, ![64, 1, 128]⟩
abbrev S1x1x8x128 : Shape := ⟨4, ![1, 1, 8, 128]⟩
abbrev S16x128 : Shape := ⟨2, ![16, 128]⟩
abbrev S32x16x128 : Shape := ⟨3, ![32, 16, 128]⟩
abbrev S1x16x128 : Shape := ⟨3, ![1, 16, 128]⟩
abbrev S1024x256 : Shape := ⟨2, ![1024, 256]⟩
abbrev S1x32x1024 : Shape := ⟨3, ![1, 32, 1024]⟩
abbrev S32x1024 : Shape := ⟨2, ![32, 1024]⟩
abbrev S512x512 : Shape := ⟨2, ![512, 512]⟩
abbrev S176x512 : Shape := ⟨2, ![176, 512]⟩
abbrev S8x512 : Shape := ⟨2, ![8, 512]⟩
abbrev S8x1x11264 : Shape := ⟨3, ![8, 1, 11264]⟩

abbrev nBuf : Space → Nat
  | .hbm => 10
  | .vmem => 10
  | .smem => 1
  | _ => 0

abbrev bufTy : (tb : Table) → Fin (tcTables nBuf tb) → BufTy
  | .hbm, ⟨0, _⟩ => ⟨S8x1x8192, .bf16⟩
  | .hbm, ⟨1, _⟩ => ⟨S11264x4096, .i8⟩
  | .hbm, ⟨2, _⟩ => ⟨S11264x128, .i8⟩
  | .hbm, ⟨3, _⟩ => ⟨S5632, .f32⟩
  | .hbm, ⟨4, _⟩ => ⟨S_, .f32⟩
  | .hbm, ⟨5, _⟩ => ⟨S8x8192, .bf16⟩
  | .hbm, ⟨6, _⟩ => ⟨S22x2x128, .f32⟩
  | .hbm, ⟨7, _⟩ => ⟨S1, .f32⟩
  | .hbm, ⟨8, _⟩ => ⟨S8x11264, .bf16⟩
  | .hbm, ⟨9, _⟩ => ⟨S8x1x11264, .bf16⟩
  | .local _ .vmem, ⟨0, _⟩ => ⟨S8x8192, .bf16⟩
  | .local _ .vmem, ⟨1, _⟩ => ⟨S22x2x128, .f32⟩
  | .local _ .vmem, ⟨2, _⟩ => ⟨S1024x4096, .i8⟩
  | .local _ .vmem, ⟨3, _⟩ => ⟨S1024x4096, .i8⟩
  | .local _ .vmem, ⟨4, _⟩ => ⟨S1024x128, .i8⟩
  | .local _ .vmem, ⟨5, _⟩ => ⟨S1024x128, .i8⟩
  | .local _ .vmem, ⟨6, _⟩ => ⟨S8x11264, .bf16⟩
  | .local _ .vmem, ⟨7, _⟩ => ⟨S32x32x1024, .bf16⟩
  | .local _ .vmem, ⟨8, _⟩ => ⟨S2x64x8x128, .i32⟩
  | .local _ .vmem, ⟨9, _⟩ => ⟨S22x8x512, .bf16⟩
  | .local _ .smem, ⟨0, _⟩ => ⟨S1, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [BitOps F]

abbrev grid0 : Pipeline.Grid := ⟨1, ![11], ![false]⟩

def k0_off1 (i : grid0.Coords) (c0_i32_3 : BitVec 32) : Fin 3 → Nat :=
  let arg0 : BitVec 32 := BitVec.ofNat 32 (i 0).val
  let c2_i32 : BitVec 32 := 2#32
  let v10 : BitVec 32 := Scalar.muli arg0 c2_i32
  let v11 : BitVec 32 := Scalar.addi v10 c0_i32_3
  let v12 : Index := Scalar.indexCast v11
  let c0_4 : Index := 0#32
  let c0_5 : Index := 0#32
  ![v12.toNat, 0, 0]
@[reducible] def k0_t1_loop : Scf.Loop 32 :=
  let c0_i32_38 : BitVec 32 := 0#32
  let c16_i32_39 : BitVec 32 := 16#32
  let v163 : BitVec 32 := Scalar.addi c0_i32_38 c16_i32_39
  let c1_i32_40 : BitVec 32 := 1#32
  ⟨c0_i32_38, v163, c1_i32_40⟩
def k0_mult1 (k0_t1 : Fin k0_t1_loop.trips) : BitVec 32 :=
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let c0_i32_73 : BitVec 32 := 0#32
  let v233 : BitVec 32 := Scalar.addi v232 c0_i32_73
  let c128_i32_74 : BitVec 32 := 128#32
  let v234 : BitVec 32 := Scalar.muli v233 c128_i32_74
  v234
def k0_off2 (k0_t1 : Fin k0_t1_loop.trips) (c0_i32_73 : BitVec 32) : Fin 2 → Nat :=
  let c0_75 : Index := 0#32
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let v233 : BitVec 32 := Scalar.addi v232 c0_i32_73
  let c128_i32_74 : BitVec 32 := 128#32
  let v234 : BitVec 32 := Scalar.muli v233 c128_i32_74
  let v235 : BitVec 32 := v234
  let v236 : Index := Scalar.indexCast v235
  ![0, v236.toNat]
def k0_off3 (k0_t1 : Fin k0_t1_loop.trips) (c0_i32_73 : BitVec 32) (c0_i32_103 : BitVec 32) : Fin 4 → Nat :=
  let c0_104 : Index := 0#32
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let v233 : BitVec 32 := Scalar.addi v232 c0_i32_73
  let c2_i32_102 : BitVec 32 := 2#32
  let v333 : BitVec 32 := Scalar.muli v233 c2_i32_102
  let v334 : BitVec 32 := Scalar.addi v333 c0_i32_103
  let v335 : Index := Scalar.indexCast v334
  let c0_105 : Index := 0#32
  let c0_106 : Index := 0#32
  ![0, v335.toNat, 0, 0]
def k0_off4 (k0_t1 : Fin k0_t1_loop.trips) (c0_i32_73 : BitVec 32) (c0_i32_177 : BitVec 32) : Fin 4 → Nat :=
  let c1_178 : Index := 1#32
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let v233 : BitVec 32 := Scalar.addi v232 c0_i32_73
  let c2_i32_176 : BitVec 32 := 2#32
  let v542 : BitVec 32 := Scalar.muli v233 c2_i32_176
  let v543 : BitVec 32 := Scalar.addi v542 c0_i32_177
  let v544 : Index := Scalar.indexCast v543
  let c0_179 : Index := 0#32
  let c0_180 : Index := 0#32
  ![1, v544.toNat, 0, 0]
def k0_off5 (k0_t1 : Fin k0_t1_loop.trips) (c0_i32_73 : BitVec 32) : Fin 3 → Nat :=
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let v233 : BitVec 32 := Scalar.addi v232 c0_i32_73
  let v658 : Index := Scalar.indexCast v233
  let c0_218 : Index := 0#32
  let c0_219 : Index := 0#32
  ![v658.toNat, 0, 0]
def k0_mult2 (k0_t1 : Fin k0_t1_loop.trips) : BitVec 32 :=
  let c0_i32_38 : BitVec 32 := 0#32
  let c1_i32_40 : BitVec 32 := 1#32
  let arg10 : BitVec 32 := Scf.iv c0_i32_38 c1_i32_40 k0_t1
  let c2_i32_221 : BitVec 32 := 2#32
  let v663 : BitVec 32 := Scalar.muli arg10 c2_i32_221
  let c1_i32_222 : BitVec 32 := 1#32
  let v664 : BitVec 32 := Scalar.addi v663 c1_i32_222
  let c128_i32_223 : BitVec 32 := 128#32
  let v665 : BitVec 32 := Scalar.muli v664 c128_i32_223
  v665
def k0_off6 (i : grid0.Coords) (c0_i32_43 : BitVec 32) : Fin 3 → Nat :=
  let arg0 : BitVec 32 := BitVec.ofNat 32 (i 0).val
  let c2_i32_42 : BitVec 32 := 2#32
  let v167 : BitVec 32 := Scalar.muli arg0 c2_i32_42
  let v168 : BitVec 32 := Scalar.addi v167 c0_i32_43
  let v169 : Index := Scalar.indexCast v168
  let c0_44 : Index := 0#32
  let c0_45 : Index := 0#32
  ![v169.toNat, 0, 0]
def k0_off7 (i : grid0.Coords) (c0_i32_47 : BitVec 32) : Fin 3 → Nat :=
  let arg0 : BitVec 32 := BitVec.ofNat 32 (i 0).val
  let c2_i32_46 : BitVec 32 := 2#32
  let v175 : BitVec 32 := Scalar.muli arg0 c2_i32_46
  let v176 : BitVec 32 := Scalar.addi v175 c0_i32_47
  let v177 : Index := Scalar.indexCast v176
  let c0_48 : Index := 0#32
  let c128 : Index := 128#32
  ![v177.toNat, 0, 128]
def k0_off8 (i : grid0.Coords) (c0_i32_50 : BitVec 32) : Fin 3 → Nat :=
  let arg0 : BitVec 32 := BitVec.ofNat 32 (i 0).val
  let c2_i32_49 : BitVec 32 := 2#32
  let v183 : BitVec 32 := Scalar.muli arg0 c2_i32_49
  let v184 : BitVec 32 := Scalar.addi v183 c0_i32_50
  let v185 : Index := Scalar.indexCast v184
  let c0_51 : Index := 0#32
  let c256 : Index := 256#32
  ![v185.toNat, 0, 256]
def k0_off9 (i : grid0.Coords) (c0_i32_53 : BitVec 32) : Fin 3 → Nat :=
  let arg0 : BitVec 32 := BitVec.ofNat 32 (i 0).val
  let c2_i32_52 : BitVec 32 := 2#32
  let v191 : BitVec 32 := Scalar.muli arg0 c2_i32_52
  let v192 : BitVec 32 := Scalar.addi v191 c0_i32_53
  let v193 : Index := Scalar.indexCast v192
  let c0_54 : Index := 0#32
  let c384 : Index := 384#32
  ![v193.toNat, 0, 384]
def k0_cond2 (i : grid0.Coords) : BitVec 1 :=
  let arg0 : BitVec 32 := BitVec.ofNat 32 (i 0).val
  let c10_i32 : BitVec 32 := 10#32
  let v229 : BitVec 1 := Scalar.cmpi .eq arg0 c10_i32
  let v230 : BitVec 32 := Scalar.extui v229
  let c0_i32_71 : BitVec 32 := 0#32
  let v231 : BitVec 1 := Scalar.cmpi .ne v230 c0_i32_71
  v231

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S22x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x11264 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
abbrev S8x1x8192 : Shape := ⟨3, ![8, 1, 8192]⟩
abbrev S11264x4096 : Shape := ⟨2, ![11264, 4096]⟩
abbrev S11264x128 : Shape := ⟨2, ![11264, 128]⟩
abbrev S5632 : Shape := ⟨1, ![5632]⟩
abbrev S_ : Shape := ⟨0, ![]⟩
abbrev S8x8192 : Shape := ⟨2, ![8, 8192]⟩
abbrev S22x2x128 : Shape := ⟨3, ![22, 2, 128]⟩
abbrev S1 : Shape := ⟨1, ![1]⟩
abbrev S8x11264 : Shape := ⟨2, ![8, 11264]⟩
abbrev S1024x4096 : Shape := ⟨2, ![1024, 4096]⟩
abbrev S1024x128 : Shape := ⟨2, ![1024, 128]⟩
abbrev S32x32x1024 : Shape := ⟨3, ![32, 32, 1024]⟩
abbrev S2x64x8x128 : Shape := ⟨4, ![2, 64, 8, 128]⟩
abbrev S2x64x8x2x128 : Shape := ⟨5, ![2, 64, 8, 2, 128]⟩
abbrev S2x64x8x1x128 : Shape := ⟨5, ![2, 64, 8, 1, 128]⟩
abbrev S22x8x512 : Shape := ⟨3, ![22, 8, 512]⟩
abbrev S8x128 : Shape := ⟨2, ![8, 128]⟩
abbrev S8x256 : Shape := ⟨2, ![8, 256]⟩
abbrev S256x256 : Shape := ⟨2, ![256, 256]⟩
abbrev S256x1024 : Shape := ⟨2, ![256, 1024]⟩
abbrev S8x1024 : Shape := ⟨2, ![8, 1024]⟩
abbrev S1x8x1024 : Shape := ⟨3, ![1, 8, 1024]⟩
abbrev S1x128 : Shape := ⟨2, ![1, 128]⟩
abbrev S256x128 : Shape := ⟨2, ![256, 128]⟩
abbrev S1x2x128 : Shape := ⟨3, ![1, 2, 128]⟩
abbrev S2x128 : Shape := ⟨2, ![2, 128]⟩
abbrev S2x128x1 : Shape := ⟨3, ![2, 128, 1]⟩
abbrev S128x128 : Shape := ⟨2, ![128, 128]⟩
abbrev S512x128 : Shape := ⟨2, ![512, 128]⟩
abbrev S64x8x128 : Shape := ⟨3, ![64, 8, 128]⟩
abbrev S1x8x128 : Shape := ⟨3, ![1, 8, 128]⟩
abbrev S64x4x128 : Shape := ⟨3, ![64, 4, 128]⟩
abbrev S1x64x8x128 : Shape := ⟨4, ![1, 64, 8, 128]⟩
abbrev S1x64x8x2x128 : Shape := ⟨5, ![1, 64, 8, 2, 128]⟩
abbrev S1x64x8x1x128 : Shape := ⟨5, ![1, 64, 8, 1, 128]⟩
abbrev S32x256 : Shape := ⟨2, ![32, 256]⟩
abbrev S64x128 : Shape := ⟨2, ![64, 128]⟩
abbrev S64x1x128 : Shape := ⟨3, ![64, 1, 128]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S16x128 : Shape := ⟨2, ![16, 128]⟩
abbrev S32x16x128 : Shape := ⟨3, ![32, 16, 128]⟩
abbrev S1x16x128 : Shape := ⟨3, ![1, 16, 128]⟩
abbrev S1024x256 : Shape := ⟨2, ![1024, 256]⟩
abbrev S1x32x1024 : Shape := ⟨3, ![1, 32, 1024]⟩
abbrev S32x1024 : Shape := ⟨2, ![32, 1024]⟩
abbrev S512x512 : Shape := ⟨2, ![512, 512]⟩
abbrev S176x512 : Shape := ⟨2, ![176, 512]⟩
abbrev S8x512 : Shape := ⟨2, ![8, 512]⟩
abbrev S8x1x11264 : Shape := ⟨3, ![8, 1, 11264]⟩

abbrev nBuf : Space → Nat
  | .hbm => 10
  | .vmem => 10
  | .smem => 1
  | _ => 0

abbrev bufTy : (tb : Table) → Fin (tcTables nBuf tb) → BufTy
  | .hbm, ⟨0, _⟩ => ⟨S8x1x8192, .bf16⟩
  | .hbm, ⟨1, _⟩ => ⟨S11264x4096, .i8⟩
  | .hbm, ⟨2, _⟩ => ⟨S11264x128, .i8⟩
  | .hbm, ⟨3, _⟩ => ⟨S5632, .f32⟩
  | .hbm, ⟨4, _⟩ => ⟨S_, .f32⟩
  | .hbm, ⟨5, _⟩ => ⟨S8x8192, .bf16⟩
  | .hbm, ⟨6, _⟩ => ⟨S22x2x128, .f32⟩
  | .hbm, ⟨7, _⟩ => ⟨S1, .f32⟩
  | .hbm, ⟨8, _⟩ => ⟨S8x11264, .bf16⟩
  | .hbm, ⟨9, _⟩ => ⟨S8x1x11264, .bf16⟩
  | .local _ .vmem, ⟨0, _⟩ => ⟨S8x8192, .bf16⟩
  | .local _ .vmem, ⟨1, _⟩ => ⟨S22x2x128, .f32⟩
  | .local _ .vmem, ⟨2, _⟩ => ⟨S1024x4096, .i8⟩
  | .local _ .vmem, ⟨3, _⟩ => ⟨S1024x4096, .i8⟩
  | .local _ .vmem, ⟨4, _⟩ => ⟨S1024x128, .i8⟩
  | .local _ .vmem, ⟨5, _⟩ => ⟨S1024x128, .i8⟩
  | .local _ .vmem, ⟨6, _⟩ => ⟨S8x11264, .bf16⟩
  | .local _ .vmem, ⟨7, _⟩ => ⟨S32x32x1024, .bf16⟩
  | .local _ .vmem, ⟨8, _⟩ => ⟨S2x64x8x2x128, .bf16⟩
  | .local _ .vmem, ⟨9, _⟩ => ⟨S22x8x512, .bf16⟩
  | .local _ .smem, ⟨0, _⟩ => ⟨S1, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![11], ![false]⟩

def k0_off1 (i : grid0.Coords) (c0_i32_3 : BitVec 32) : Fin 3 → Nat :=
  let arg0 : BitVec 32 := BitVec.ofNat 32 (i 0).val
  let c2_i32 : BitVec 32 := 2#32
  let v10 : BitVec 32 := Scalar.muli arg0 c2_i32
  let v11 : BitVec 32 := Scalar.addi v10 c0_i32_3
  let v12 : Index := Scalar.indexCast v11
  let c0_4 : Index := 0#32
  let c0_5 : Index := 0#32
  ![v12.toNat, 0, 0]
@[reducible] def k0_t1_loop : Scf.Loop 32 :=
  let c0_i32_38 : BitVec 32 := 0#32
  let c16_i32_39 : BitVec 32 := 16#32
  let v163 : BitVec 32 := Scalar.addi c0_i32_38 c16_i32_39
  let c1_i32_40 : BitVec 32 := 1#32
  ⟨c0_i32_38, v163, c1_i32_40⟩
def k0_mult1 (k0_t1 : Fin k0_t1_loop.trips) : BitVec 32 :=
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let c0_i32_73 : BitVec 32 := 0#32
  let v233 : BitVec 32 := Scalar.addi v232 c0_i32_73
  let c128_i32_74 : BitVec 32 := 128#32
  let v234 : BitVec 32 := Scalar.muli v233 c128_i32_74
  v234
def k0_off2 (k0_t1 : Fin k0_t1_loop.trips) (c0_i32_73 : BitVec 32) : Fin 2 → Nat :=
  let c0_75 : Index := 0#32
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let v233 : BitVec 32 := Scalar.addi v232 c0_i32_73
  let c128_i32_74 : BitVec 32 := 128#32
  let v234 : BitVec 32 := Scalar.muli v233 c128_i32_74
  let v235 : BitVec 32 := v234
  let v236 : Index := Scalar.indexCast v235
  ![0, v236.toNat]
def k0_off3 (k0_t1 : Fin k0_t1_loop.trips) (c0_i32_73 : BitVec 32) (c0_i32_103 : BitVec 32) : Fin 5 → Nat :=
  let c0_104 : Index := 0#32
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let v233 : BitVec 32 := Scalar.addi v232 c0_i32_73
  let c2_i32_102 : BitVec 32 := 2#32
  let v333 : BitVec 32 := Scalar.muli v233 c2_i32_102
  let v334 : BitVec 32 := Scalar.addi v333 c0_i32_103
  let v335 : Index := Scalar.indexCast v334
  let c0_105 : Index := 0#32
  let c0_106 : Index := 0#32
  ![0, v335.toNat, 0, 0, 0]
def k0_off4 (k0_t1 : Fin k0_t1_loop.trips) (c0_i32_73 : BitVec 32) (c0_i32_177 : BitVec 32) : Fin 5 → Nat :=
  let c1_178 : Index := 1#32
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let v233 : BitVec 32 := Scalar.addi v232 c0_i32_73
  let c2_i32_176 : BitVec 32 := 2#32
  let v542 : BitVec 32 := Scalar.muli v233 c2_i32_176
  let v543 : BitVec 32 := Scalar.addi v542 c0_i32_177
  let v544 : Index := Scalar.indexCast v543
  let c0_179 : Index := 0#32
  let c0_180 : Index := 0#32
  ![1, v544.toNat, 0, 0, 0]
def k0_off5 (k0_t1 : Fin k0_t1_loop.trips) (c0_i32_73 : BitVec 32) : Fin 3 → Nat :=
  let c0_i32_38 : BitVec 32 := 0#32
  let c1_i32_40 : BitVec 32 := 1#32
  let arg10 : BitVec 32 := Scf.iv c0_i32_38 c1_i32_40 k0_t1
  let c2_i32_72 : BitVec 32 := 2#32
  let v232 : BitVec 32 := Scalar.muli arg10 c2_i32_72
  let v233 : BitVec 32 := Scalar.addi v232 c0_i32_73
  let v658 : Index := Scalar.indexCast v233
  let c0_218 : Index := 0#32
  let c0_219 : Index := 0#32
  ![v658.toNat, 0, 0]
def k0_mult2 (k0_t1 : Fin k0_t1_loop.trips) : BitVec 32 :=
  let c0_i32_38 : BitVec 32 := 0#32
  let c1_i32_40 : BitVec 32 := 1#32
  let arg10 : BitVec 32 := Scf.iv c0_i32_38 c1_i32_40 k0_t1
  let c2_i32_221 : BitVec 32 := 2#32
  let v663 : BitVec 32 := Scalar.muli arg10 c2_i32_221
  let c1_i32_222 : BitVec 32 := 1#32
  let v664 : BitVec 32 := Scalar.addi v663 c1_i32_222
  let c128_i32_223 : BitVec 32 := 128#32
  let v665 : BitVec 32 := Scalar.muli v664 c128_i32_223
  v665
def k0_off6 (i : grid0.Coords) (c0_i32_43 : BitVec 32) : Fin 3 → Nat :=
  let arg0 : BitVec 32 := BitVec.ofNat 32 (i 0).val
  let c2_i32_42 : BitVec 32 := 2#32
  let v167 : BitVec 32 := Scalar.muli arg0 c2_i32_42
  let v168 : BitVec 32 := Scalar.addi v167 c0_i32_43
  let v169 : Index := Scalar.indexCast v168
  let c0_44 : Index := 0#32
  let c0_45 : Index := 0#32
  ![v169.toNat, 0, 0]
def k0_off7 (i : grid0.Coords) (c0_i32_47 : BitVec 32) : Fin 3 → Nat :=
  let arg0 : BitVec 32 := BitVec.ofNat 32 (i 0).val
  let c2_i32_46 : BitVec 32 := 2#32
  let v175 : BitVec 32 := Scalar.muli arg0 c2_i32_46
  let v176 : BitVec 32 := Scalar.addi v175 c0_i32_47
  let v177 : Index := Scalar.indexCast v176
  let c0_48 : Index := 0#32
  let c128 : Index := 128#32
  ![v177.toNat, 0, 128]
def k0_off8 (i : grid0.Coords) (c0_i32_50 : BitVec 32) : Fin 3 → Nat :=
  let arg0 : BitVec 32 := BitVec.ofNat 32 (i 0).val
  let c2_i32_49 : BitVec 32 := 2#32
  let v183 : BitVec 32 := Scalar.muli arg0 c2_i32_49
  let v184 : BitVec 32 := Scalar.addi v183 c0_i32_50
  let v185 : Index := Scalar.indexCast v184
  let c0_51 : Index := 0#32
  let c256 : Index := 256#32
  ![v185.toNat, 0, 256]
def k0_off9 (i : grid0.Coords) (c0_i32_53 : BitVec 32) : Fin 3 → Nat :=
  let arg0 : BitVec 32 := BitVec.ofNat 32 (i 0).val
  let c2_i32_52 : BitVec 32 := 2#32
  let v191 : BitVec 32 := Scalar.muli arg0 c2_i32_52
  let v192 : BitVec 32 := Scalar.addi v191 c0_i32_53
  let v193 : Index := Scalar.indexCast v192
  let c0_54 : Index := 0#32
  let c384 : Index := 384#32
  ![v193.toNat, 0, 384]
def k0_cond2 (i : grid0.Coords) : BitVec 1 :=
  let arg0 : BitVec 32 := BitVec.ofNat 32 (i 0).val
  let c10_i32 : BitVec 32 := 10#32
  let v229 : BitVec 1 := Scalar.cmpi .eq arg0 c10_i32
  let v230 : BitVec 32 := Scalar.extui v229
  let c0_i32_71 : BitVec 32 := 0#32
  let v231 : BitVec 1 := Scalar.cmpi .ne v230 c0_i32_71
  v231

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S22x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x11264 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x1x8192 : Shape := ⟨3, ![8, 1, 8192]⟩
abbrev S11264x4096 : Shape := ⟨2, ![11264, 4096]⟩
abbrev S11264x128 : Shape := ⟨2, ![11264, 128]⟩
abbrev S5632 : Shape := ⟨1, ![5632]⟩
abbrev S_ : Shape := ⟨0, ![]⟩
abbrev S5632x256 : Shape := ⟨2, ![5632, 256]⟩
abbrev S5632x1 : Shape := ⟨2, ![5632, 1]⟩
abbrev S11264x64 : Shape := ⟨2, ![11264, 64]⟩
abbrev S4096 : Shape := ⟨1, ![4096]⟩
abbrev S1x4096 : Shape := ⟨2, ![1, 4096]⟩
abbrev S64 : Shape := ⟨1, ![64]⟩
abbrev S64x1 : Shape := ⟨2, ![64, 1]⟩
abbrev S64x4096 : Shape := ⟨2, ![64, 4096]⟩
abbrev S8x8192 : Shape := ⟨2, ![8, 8192]⟩
abbrev S8x4096 : Shape := ⟨2, ![8, 4096]⟩
abbrev S8x11264 : Shape := ⟨2, ![8, 11264]⟩
abbrev S8x1x11264 : Shape := ⟨3, ![8, 1, 11264]⟩

abbrev nBuf : Space → Nat
  | .hbm => 264
  | .vmem => 0
  | .smem => 0
  | _ => 0

abbrev hbmTy0_0 (i : Nat) : BufTy := match i % 128 with
  | 0 => ⟨S8x1x8192, .bf16⟩
  | 1 => ⟨S11264x4096, .i8⟩
  | 2 => ⟨S11264x128, .i8⟩
  | 3 => ⟨S5632, .f32⟩
  | 4 => ⟨S_, .f32⟩
  | 5 => ⟨S5632x256, .i8⟩
  | 6 => ⟨S5632x256, .i32⟩
  | 7 => ⟨S5632x256, .f32⟩
  | 8 => ⟨S5632x1, .f32⟩
  | 9 => ⟨S5632x256, .f32⟩
  | 10 => ⟨S5632x256, .f32⟩
  | 11 => ⟨S5632x256, .f32⟩
  | 12 => ⟨S5632x256, .f32⟩
  | 13 => ⟨S11264x128, .f32⟩
  | 14 => ⟨S11264x128, .bf16⟩
  | 15 => ⟨S11264x4096, .i32⟩
  | 16 => ⟨S_, .i32⟩
  | 17 => ⟨S11264x4096, .i32⟩
  | 18 => ⟨S11264x4096, .i32⟩
  | 19 => ⟨S_, .i32⟩
  | 20 => ⟨S11264x4096, .i32⟩
  | 21 => ⟨S11264x4096, .i32⟩
  | 22 => ⟨S11264x64, .bf16⟩
  | 23 => ⟨S_, .i32⟩
  | 24 => ⟨S11264x4096, .i32⟩
  | 25 => ⟨S11264x4096, .i32⟩
  | 26 => ⟨S_, .i32⟩
  | 27 => ⟨S11264x4096, .i32⟩
  | 28 => ⟨S11264x4096, .i32⟩
  | 29 => ⟨S_, .i32⟩
  | 30 => ⟨S11264x4096, .i32⟩
  | 31 => ⟨S11264x4096, .i1⟩
  | 32 => ⟨S11264x4096, .i1⟩
  | 33 => ⟨S_, .bf16⟩
  | 34 => ⟨S_, .bf16⟩
  | 35 => ⟨S11264x4096, .bf16⟩
  | 36 => ⟨S11264x4096, .bf16⟩
  | 37 => ⟨S11264x4096, .bf16⟩
  | 38 => ⟨S_, .bf16⟩
  | 39 => ⟨S_, .bf16⟩
  | 40 => ⟨S11264x4096, .bf16⟩
  | 41 => ⟨S11264x4096, .bf16⟩
  | 42 => ⟨S11264x4096, .bf16⟩
  | 43 => ⟨S_, .bf16⟩
  | 44 => ⟨S_, .bf16⟩
  | 45 => ⟨S11264x4096, .bf16⟩
  | 46 => ⟨S11264x4096, .bf16⟩
  | 47 => ⟨S11264x4096, .bf16⟩
  | 48 => ⟨S_, .bf16⟩
  | 49 => ⟨S_, .bf16⟩
  | 50 => ⟨S11264x4096, .bf16⟩
  | 51 => ⟨S11264x4096, .bf16⟩
  | 52 => ⟨S11264x4096, .bf16⟩
  | 53 => ⟨S_, .bf16⟩
  | 54 => ⟨S_, .bf16⟩
  | 55 => ⟨S11264x4096, .bf16⟩
  | 56 => ⟨S11264x4096, .bf16⟩
  | 57 => ⟨S11264x4096, .bf16⟩
  | 58 => ⟨S_, .bf16⟩
  | 59 => ⟨S_, .bf16⟩
  | 60 => ⟨S11264x4096, .bf16⟩
  | 61 => ⟨S11264x4096, .bf16⟩
  | 62 => ⟨S11264x4096, .bf16⟩
  | 63 => ⟨S_, .bf16⟩
  | 64 => ⟨S_, .bf16⟩
  | 65 => ⟨S11264x4096, .bf16⟩
  | 66 => ⟨S11264x4096, .bf16⟩
  | 67 => ⟨S11264x4096, .bf16⟩
  | 68 => ⟨S_, .bf16⟩
  | 69 => ⟨S_, .bf16⟩
  | 70 => ⟨S11264x4096, .bf16⟩
  | 71 => ⟨S11264x4096, .bf16⟩
  | 72 => ⟨S11264x4096, .bf16⟩
  | 73 => ⟨S_, .i32⟩
  | 74 => ⟨S11264x4096, .i32⟩
  | 75 => ⟨S11264x4096, .i32⟩
  | 76 => ⟨S_, .i32⟩
  | 77 => ⟨S11264x4096, .i32⟩
  | 78 => ⟨S11264x4096, .i32⟩
  | 79 => ⟨S_, .i32⟩
  | 80 => ⟨S11264x4096, .i32⟩
  | 81 => ⟨S11264x4096, .i1⟩
  | 82 => ⟨S11264x4096, .i1⟩
  | 83 => ⟨S11264x4096, .bf16⟩
  | 84 => ⟨S11264x4096, .bf16⟩
  | 85 => ⟨S11264x4096, .bf16⟩
  | 86 => ⟨S11264x4096, .bf16⟩
  | 87 => ⟨S_, .i32⟩
  | 88 => ⟨S11264x4096, .i32⟩
  | 89 => ⟨S11264x4096, .i32⟩
  | 90 => ⟨S_, .i32⟩
  | 91 => ⟨S11264x4096, .i32⟩
  | 92 => ⟨S11264x4096, .i32⟩
  | 93 => ⟨S_, .i32⟩
  | 94 => ⟨S11264x4096, .i32⟩
  | 95 => ⟨S11264x4096, .i1⟩
  | 96 => ⟨S11264x4096, .i1⟩
  | 97 => ⟨S11264x4096, .bf16⟩
  | 98 => ⟨S11264x4096, .bf16⟩
  | 99 => ⟨S_, .i32⟩
  | 100 => ⟨S11264x4096, .i32⟩
  | 101 => ⟨S11264x4096, .i32⟩
  | 102 => ⟨S_, .i32⟩
  | 103 => ⟨S11264x4096, .i32⟩
  | 104 => ⟨S11264x4096, .i32⟩
  | 105 => ⟨S_, .i32⟩
  | 106 => ⟨S11264x4096, .i32⟩
  | 107 => ⟨S11264x4096, .i1⟩
  | 108 => ⟨S11264x4096, .i1⟩
  | 109 => ⟨S11264x4096, .bf16⟩
  | 110 => ⟨S4096, .i32⟩
  | 111 => ⟨S1x4096, .i32⟩
  | 112 => ⟨S_, .i32⟩
  | 113 => ⟨S_, .i32⟩
  | 114 => ⟨S1x4096, .i32⟩
  | 115 => ⟨S1x4096, .i32⟩
  | 116 => ⟨S1x4096, .i32⟩
  | 117 => ⟨S_, .i32⟩
  | 118 => ⟨S1x4096, .i32⟩
  | 119 => ⟨S1x4096, .i1⟩
  | 120 => ⟨S1x4096, .i32⟩
  | 121 => ⟨S1x4096, .i32⟩
  | 122 => ⟨S_, .i32⟩
  | 123 => ⟨S1x4096, .i32⟩
  | 124 => ⟨S1x4096, .i1⟩
  | 125 => ⟨S1x4096, .i1⟩
  | 126 => ⟨S_, .i32⟩
  | 127 => ⟨S1x4096, .i32⟩
  | _ => ⟨S8x1x8192, .bf16⟩

abbrev hbmTy0_1 (i : Nat) : BufTy := match i % 128 with
  | 0 => ⟨S1x4096, .i32⟩
  | 1 => ⟨S1x4096, .i32⟩
  | 2 => ⟨S64, .i32⟩
  | 3 => ⟨S64x1, .i32⟩
  | 4 => ⟨S64x4096, .i32⟩
  | 5 => ⟨S64x4096, .i32⟩
  | 6 => ⟨S64x4096, .i1⟩
  | 7 => ⟨S64x4096, .bf16⟩
  | 8 => ⟨S11264x4096, .f32⟩
  | 9 => ⟨S11264x4096, .bf16⟩
  | 10 => ⟨S11264x4096, .bf16⟩
  | 11 => ⟨S11264x64, .bf16⟩
  | 12 => ⟨S_, .i32⟩
  | 13 => ⟨S11264x4096, .i32⟩
  | 14 => ⟨S11264x4096, .i32⟩
  | 15 => ⟨S_, .i32⟩
  | 16 => ⟨S11264x4096, .i32⟩
  | 17 => ⟨S11264x4096, .i32⟩
  | 18 => ⟨S_, .i32⟩
  | 19 => ⟨S11264x4096, .i32⟩
  | 20 => ⟨S11264x4096, .i1⟩
  | 21 => ⟨S11264x4096, .i1⟩
  | 22 => ⟨S_, .bf16⟩
  | 23 => ⟨S_, .bf16⟩
  | 24 => ⟨S11264x4096, .bf16⟩
  | 25 => ⟨S11264x4096, .bf16⟩
  | 26 => ⟨S11264x4096, .bf16⟩
  | 27 => ⟨S_, .bf16⟩
  | 28 => ⟨S_, .bf16⟩
  | 29 => ⟨S11264x4096, .bf16⟩
  | 30 => ⟨S11264x4096, .bf16⟩
  | 31 => ⟨S11264x4096, .bf16⟩
  | 32 => ⟨S_, .bf16⟩
  | 33 => ⟨S_, .bf16⟩
  | 34 => ⟨S11264x4096, .bf16⟩
  | 35 => ⟨S11264x4096, .bf16⟩
  | 36 => ⟨S11264x4096, .bf16⟩
  | 37 => ⟨S_, .bf16⟩
  | 38 => ⟨S_, .bf16⟩
  | 39 => ⟨S11264x4096, .bf16⟩
  | 40 => ⟨S11264x4096, .bf16⟩
  | 41 => ⟨S11264x4096, .bf16⟩
  | 42 => ⟨S_, .bf16⟩
  | 43 => ⟨S_, .bf16⟩
  | 44 => ⟨S11264x4096, .bf16⟩
  | 45 => ⟨S11264x4096, .bf16⟩
  | 46 => ⟨S11264x4096, .bf16⟩
  | 47 => ⟨S_, .bf16⟩
  | 48 => ⟨S_, .bf16⟩
  | 49 => ⟨S11264x4096, .bf16⟩
  | 50 => ⟨S11264x4096, .bf16⟩
  | 51 => ⟨S11264x4096, .bf16⟩
  | 52 => ⟨S_, .bf16⟩
  | 53 => ⟨S_, .bf16⟩
  | 54 => ⟨S11264x4096, .bf16⟩
  | 55 => ⟨S11264x4096, .bf16⟩
  | 56 => ⟨S11264x4096, .bf16⟩
  | 57 => ⟨S_, .bf16⟩
  | 58 => ⟨S_, .bf16⟩
  | 59 => ⟨S11264x4096, .bf16⟩
  | 60 => ⟨S11264x4096, .bf16⟩
  | 61 => ⟨S11264x4096, .bf16⟩
  | 62 => ⟨S_, .i32⟩
  | 63 => ⟨S11264x4096, .i32⟩
  | 64 => ⟨S11264x4096, .i32⟩
  | 65 => ⟨S_, .i32⟩
  | 66 => ⟨S11264x4096, .i32⟩
  | 67 => ⟨S11264x4096, .i32⟩
  | 68 => ⟨S_, .i32⟩
  | 69 => ⟨S11264x4096, .i32⟩
  | 70 => ⟨S11264x4096, .i1⟩
  | 71 => ⟨S11264x4096, .i1⟩
  | 72 => ⟨S11264x4096, .bf16⟩
  | 73 => ⟨S11264x4096, .bf16⟩
  | 74 => ⟨S11264x4096, .bf16⟩
  | 75 => ⟨S11264x4096, .bf16⟩
  | 76 => ⟨S_, .i32⟩
  | 77 => ⟨S11264x4096, .i32⟩
  | 78 => ⟨S11264x4096, .i32⟩
  | 79 => ⟨S_, .i32⟩
  | 80 => ⟨S11264x4096, .i32⟩
  | 81 => ⟨S11264x4096, .i32⟩
  | 82 => ⟨S_, .i32⟩
  | 83 => ⟨S11264x4096, .i32⟩
  | 84 => ⟨S11264x4096, .i1⟩
  | 85 => ⟨S11264x4096, .i1⟩
  | 86 => ⟨S11264x4096, .bf16⟩
  | 87 => ⟨S11264x4096, .bf16⟩
  | 88 => ⟨S_, .i32⟩
  | 89 => ⟨S11264x4096, .i32⟩
  | 90 => ⟨S11264x4096, .i32⟩
  | 91 => ⟨S_, .i32⟩
  | 92 => ⟨S11264x4096, .i32⟩
  | 93 => ⟨S11264x4096, .i32⟩
  | 94 => ⟨S_, .i32⟩
  | 95 => ⟨S11264x4096, .i32⟩
  | 96 => ⟨S11264x4096, .i1⟩
  | 97 => ⟨S11264x4096, .i1⟩
  | 98 => ⟨S11264x4096, .bf16⟩
  | 99 => ⟨S4096, .i32⟩
  | 100 => ⟨S1x4096, .i32⟩
  | 101 => ⟨S_, .i32⟩
  | 102 => ⟨S_, .i32⟩
  | 103 => ⟨S1x4096, .i32⟩
  | 104 => ⟨S1x4096, .i32⟩
  | 105 => ⟨S1x4096, .i32⟩
  | 106 => ⟨S_, .i32⟩
  | 107 => ⟨S1x4096, .i32⟩
  | 108 => ⟨S1x4096, .i1⟩
  | 109 => ⟨S1x4096, .i32⟩
  | 110 => ⟨S1x4096, .i32⟩
  | 111 => ⟨S_, .i32⟩
  | 112 => ⟨S1x4096, .i32⟩
  | 113 => ⟨S1x4096, .i1⟩
  | 114 => ⟨S1x4096, .i1⟩
  | 115 => ⟨S_, .i32⟩
  | 116 => ⟨S1x4096, .i32⟩
  | 117 => ⟨S1x4096, .i32⟩
  | 118 => ⟨S1x4096, .i32⟩
  | 119 => ⟨S64, .i32⟩
  | 120 => ⟨S64x1, .i32⟩
  | 121 => ⟨S64x4096, .i32⟩
  | 122 => ⟨S64x4096, .i32⟩
  | 123 => ⟨S64x4096, .i1⟩
  | 124 => ⟨S64x4096, .bf16⟩
  | 125 => ⟨S11264x4096, .f32⟩
  | 126 => ⟨S11264x4096, .bf16⟩
  | 127 => ⟨S11264x4096, .bf16⟩
  | _ => ⟨S8x1x8192, .bf16⟩

abbrev hbmTy0_2 (i : Nat) : BufTy := match i % 128 with
  | 0 => ⟨S8x8192, .bf16⟩
  | 1 => ⟨S8x4096, .bf16⟩
  | 2 => ⟨S8x11264, .f32⟩
  | 3 => ⟨S8x4096, .bf16⟩
  | 4 => ⟨S8x11264, .f32⟩
  | 5 => ⟨S8x11264, .f32⟩
  | 6 => ⟨S8x11264, .bf16⟩
  | 7 => ⟨S8x1x11264, .bf16⟩
  | _ => ⟨S8x1x8192, .bf16⟩

abbrev hbmTy (i : Nat) : BufTy := match i / 128 with
  | 0 => hbmTy0_0 i
  | 1 => hbmTy0_1 i
  | 2 => hbmTy0_2 i
  | _ => ⟨S8x1x8192, .bf16⟩

abbrev bufTy : (tb : Table) → Fin (tcTables nBuf tb) → BufTy
  | .hbm, ⟨i, _⟩ => hbmTy i
  | _, _ => ⟨S8x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_cst_5 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_cst_7 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_v25 : Ref sig .tc := ⟨.hbm, 47, rfl⟩
abbrev main_cst_9 : Ref sig .tc := ⟨.hbm, 48, rfl⟩
abbrev main_cst_10 : Ref sig .tc := ⟨.hbm, 49, rfl⟩
abbrev main_call3_v0 : Ref sig .tc := ⟨.hbm, 50, rfl⟩
abbrev main_call3_v1 : Ref sig .tc := ⟨.hbm, 51, rfl⟩
abbrev main_v26 : Ref sig .tc := ⟨.hbm, 52, rfl⟩
abbrev main_cst_11 : Ref sig .tc := ⟨.hbm, 53, rfl⟩
abbrev main_cst_12 : Ref sig .tc := ⟨.hbm, 54, rfl⟩
abbrev main_call4_v0 : Ref sig .tc := ⟨.hbm, 55, rfl⟩
abbrev main_call4_v1 : Ref sig .tc := ⟨.hbm, 56, rfl⟩
abbrev main_v27 : Ref sig .tc := ⟨.hbm, 57, rfl⟩
abbrev main_cst_13 : Ref sig .tc := ⟨.hbm, 58, rfl⟩
abbrev main_cst_14 : Ref sig .tc := ⟨.hbm, 59, rfl⟩
abbrev main_call5_v0 : Ref sig .tc := ⟨.hbm, 60, rfl⟩
abbrev main_call5_v1 : Ref sig .tc := ⟨.hbm, 61, rfl⟩
abbrev main_v28 : Ref sig .tc := ⟨.hbm, 62, rfl⟩
abbrev main_cst_15 : Ref sig .tc := ⟨.hbm, 63, rfl⟩
abbrev main_cst_16 : Ref sig .tc := ⟨.hbm, 64, rfl⟩
abbrev main_call6_v0 : Ref sig .tc := ⟨.hbm, 65, rfl⟩
abbrev main_call6_v1 : Ref sig .tc := ⟨.hbm, 66, rfl⟩
abbrev main_v29 : Ref sig .tc := ⟨.hbm, 67, rfl⟩
abbrev main_cst_17 : Ref sig .tc := ⟨.hbm, 68, rfl⟩
abbrev main_cst_18 : Ref sig .tc := ⟨.hbm, 69, rfl⟩
abbrev main_call7_v0 : Ref sig .tc := ⟨.hbm, 70, rfl⟩
abbrev main_call7_v1 : Ref sig .tc := ⟨.hbm, 71, rfl⟩
abbrev main_v30 : Ref sig .tc := ⟨.hbm, 72, rfl⟩
abbrev main_c_19 : Ref sig .tc := ⟨.hbm, 73, rfl⟩
abbrev main_v31 : Ref sig .tc := ⟨.hbm, 74, rfl⟩
abbrev main_v32 : Ref sig .tc := ⟨.hbm, 75, rfl⟩
abbrev main_c_20 : Ref sig .tc := ⟨.hbm, 76, rfl⟩
abbrev main_v33 : Ref sig .tc := ⟨.hbm, 77, rfl⟩
abbrev main_v34 : Ref sig .tc := ⟨.hbm, 78, rfl⟩
abbrev main_c_21 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_22 : Ref sig .tc := ⟨.hbm, 87, rfl⟩
abbrev main_v42 : Ref sig .tc := ⟨.hbm, 88, rfl⟩
abbrev main_v43 : Ref sig .tc := ⟨.hbm, 89, rfl⟩
abbrev main_c_23 : Ref sig .tc := ⟨.hbm, 90, rfl⟩
abbrev main_v44 : Ref sig .tc := ⟨.hbm, 91, rfl⟩
abbrev main_v45 : Ref sig .tc := ⟨.hbm, 92, rfl⟩
abbrev main_c_24 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_25 : Ref sig .tc := ⟨.hbm, 99, rfl⟩
abbrev main_v51 : Ref sig .tc := ⟨.hbm, 100, rfl⟩
abbrev main_v52 : Ref sig .tc := ⟨.hbm, 101, rfl⟩
abbrev main_c_26 : Ref sig .tc := ⟨.hbm, 102, rfl⟩
abbrev main_v53 : Ref sig .tc := ⟨.hbm, 103, rfl⟩
abbrev main_v54 : Ref sig .tc := ⟨.hbm, 104, rfl⟩
abbrev main_c_27 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_c_28 : Ref sig .tc := ⟨.hbm, 112, rfl⟩
abbrev main_call15_v0 : Ref sig .tc := ⟨.hbm, 113, rfl⟩
abbrev main_call15_v1 : Ref sig .tc := ⟨.hbm, 114, rfl⟩
abbrev main_call15_v2 : Ref sig .tc := ⟨.hbm, 115, rfl⟩
abbrev main_call15_v3 : Ref sig .tc := ⟨.hbm, 116, rfl⟩
abbrev main_call15_v4 : Ref sig .tc := ⟨.hbm, 117, rfl⟩
abbrev main_call15_v5 : Ref sig .tc := ⟨.hbm, 118, rfl⟩
abbrev main_call15_v6 : Ref sig .tc := ⟨.hbm, 119, rfl⟩
abbrev main_call15_v7 : Ref sig .tc := ⟨.hbm, 120, rfl⟩
abbrev main_call15_v8 : Ref sig .tc := ⟨.hbm, 121, rfl⟩
abbrev main_call15_c : Ref sig .tc := ⟨.hbm, 122, rfl⟩
abbrev main_call15_v9 : Ref sig .tc := ⟨.hbm, 123, rfl⟩
abbrev main_call15_v10 : Ref sig .tc := ⟨.hbm, 124, rfl⟩
abbrev main_call15_v11 : Ref sig .tc := ⟨.hbm, 125, rfl⟩
abbrev main_call15_c_0 : Ref sig .tc := ⟨.hbm, 126, rfl⟩
abbrev main_call15_v12 : Ref sig .tc := ⟨.hbm, 127, rfl⟩
abbrev main_call15_v13 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_c_29 : Ref sig .tc := ⟨.hbm, 140, rfl⟩
abbrev main_v72 : Ref sig .tc := ⟨.hbm, 141, rfl⟩
abbrev main_v73 : Ref sig .tc := ⟨.hbm, 142, rfl⟩
abbrev main_c_30 : Ref sig .tc := ⟨.hbm, 143, rfl⟩
abbrev main_v74 : Ref sig .tc := ⟨.hbm, 144, rfl⟩
abbrev main_v75 : Ref sig .tc := ⟨.hbm, 145, rfl⟩
abbrev main_c_31 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_32 : Ref sig .tc := ⟨.hbm, 150, rfl⟩
abbrev main_cst_33 : Ref sig .tc := ⟨.hbm, 151, rfl⟩
abbrev main_call16_v0 : Ref sig .tc := ⟨.hbm, 152, rfl⟩
abbrev main_call16_v1 : Ref sig .tc := ⟨.hbm, 153, rfl⟩
abbrev main_v79 : Ref sig .tc := ⟨.hbm, 154, rfl⟩
abbrev main_cst_34 : Ref sig .tc := ⟨.hbm, 155, rfl⟩
abbrev main_cst_35 : Ref sig .tc := ⟨.hbm, 156, rfl⟩
abbrev main_call17_v0 : Ref sig .tc := ⟨.hbm, 157, rfl⟩
abbrev main_call17_v1 : Ref sig .tc := ⟨.hbm, 158, rfl⟩
abbrev main_v80 : Ref sig .tc := ⟨.hbm, 159, rfl⟩
abbrev main_cst_36 : Ref sig .tc := ⟨.hbm, 160, rfl⟩
abbrev main_cst_37 : Ref sig .tc := ⟨.hbm, 161, rfl⟩
abbrev main_call18_v0 : Ref sig .tc := ⟨.hbm, 162, rfl⟩
abbrev main_call18_v1 : Ref sig .tc := ⟨.hbm, 163, rfl⟩
abbrev main_v81 : Ref sig .tc := ⟨.hbm, 164, rfl⟩
abbrev main_cst_38 : Ref sig .tc := ⟨.hbm, 165, rfl⟩
abbrev main_cst_39 : Ref sig .tc := ⟨.hbm, 166, rfl⟩
abbrev main_call19_v0 : Ref sig .tc := ⟨.hbm, 167, rfl⟩
abbrev main_call19_v1 : Ref sig .tc := ⟨.hbm, 168, rfl⟩
abbrev main_v82 : Ref sig .tc := ⟨.hbm, 169, rfl⟩
abbrev main_cst_40 : Ref sig .tc := ⟨.hbm, 170, rfl⟩
abbrev main_cst_41 : Ref sig .tc := ⟨.hbm, 171, rfl⟩
abbrev main_call20_v0 : Ref sig .tc := ⟨.hbm, 172, rfl⟩
abbrev main_call20_v1 : Ref sig .tc := ⟨.hbm, 173, rfl⟩
abbrev main_v83 : Ref sig .tc := ⟨.hbm, 174, rfl⟩
abbrev main_cst_42 : Ref sig .tc := ⟨.hbm, 175, rfl⟩
abbrev main_cst_43 : Ref sig .tc := ⟨.hbm, 176, rfl⟩
abbrev main_call21_v0 : Ref sig .tc := ⟨.hbm, 177, rfl⟩
abbrev main_call21_v1 : Ref sig .tc := ⟨.hbm, 178, rfl⟩
abbrev main_v84 : Ref sig .tc := ⟨.hbm, 179, rfl⟩
abbrev main_cst_44 : Ref sig .tc := ⟨.hbm, 180, rfl⟩
abbrev main_cst_45 : Ref sig .tc := ⟨.hbm, 181, rfl⟩
abbrev main_call22_v0 : Ref sig .tc := ⟨.hbm, 182, rfl⟩
abbrev main_call22_v1 : Ref sig .tc := ⟨.hbm, 183, rfl⟩
abbrev main_v85 : Ref sig .tc := ⟨.hbm, 184, rfl⟩
abbrev main_cst_46 : Ref sig .tc := ⟨.hbm, 185, rfl⟩
abbrev main_cst_47 : Ref sig .tc := ⟨.hbm, 186, rfl⟩
abbrev main_call23_v0 : Ref sig .tc := ⟨.hbm, 187, rfl⟩
abbrev main_call23_v1 : Ref sig .tc := ⟨.hbm, 188, rfl⟩
abbrev main_v86 : Ref sig .tc := ⟨.hbm, 189, rfl⟩
abbrev main_c_48 : Ref sig .tc := ⟨.hbm, 190, rfl⟩
abbrev main_v87 : Ref sig .tc := ⟨.hbm, 191, rfl⟩
abbrev main_v88 : Ref sig .tc := ⟨.hbm, 192, rfl⟩
abbrev main_c_49 : Ref sig .tc := ⟨.hbm, 193, rfl⟩
abbrev main_v89 : Ref sig .tc := ⟨.hbm, 194, rfl⟩
abbrev main_v90 : Ref sig .tc := ⟨.hbm, 195, rfl⟩
abbrev main_c_50 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_c_51 : Ref sig .tc := ⟨.hbm, 204, rfl⟩
abbrev main_v98 : Ref sig .tc := ⟨.hbm, 205, rfl⟩
abbrev main_v99 : Ref sig .tc := ⟨.hbm, 206, rfl⟩
abbrev main_c_52 : Ref sig .tc := ⟨.hbm, 207, rfl⟩
abbrev main_v100 : Ref sig .tc := ⟨.hbm, 208, rfl⟩
abbrev main_v101 : Ref sig .tc := ⟨.hbm, 209, rfl⟩
abbrev main_c_53 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_c_54 : Ref sig .tc := ⟨.hbm, 216, rfl⟩
abbrev main_v107 : Ref sig .tc := ⟨.hbm, 217, rfl⟩
abbrev main_v108 : Ref sig .tc := ⟨.hbm, 218, rfl⟩
abbrev main_c_55 : Ref sig .tc := ⟨.hbm, 219, rfl⟩
abbrev main_v109 : Ref sig .tc := ⟨.hbm, 220, rfl⟩
abbrev main_v110 : Ref sig .tc := ⟨.hbm, 221, rfl⟩
abbrev main_c_56 : Ref sig .tc := ⟨.hbm, 222, rfl⟩
abbrev main_v111 : Ref sig .tc := ⟨.hbm, 223, rfl⟩
abbrev main_v112 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_c_57 : Ref sig .tc := ⟨.hbm, 229, rfl⟩
abbrev main_call31_v0 : Ref sig .tc := ⟨.hbm, 230, rfl⟩
abbrev main_call31_v1 : Ref sig .tc := ⟨.hbm, 231, rfl⟩
abbrev main_call31_v2 : Ref sig .tc := ⟨.hbm, 232, rfl⟩
abbrev main_call31_v3 : Ref sig .tc := ⟨.hbm, 233, rfl⟩
abbrev main_call31_v4 : Ref sig .tc := ⟨.hbm, 234, rfl⟩
abbrev main_call31_v5 : Ref sig .tc := ⟨.hbm, 235, rfl⟩
abbrev main_call31_v6 : Ref sig .tc := ⟨.hbm, 236, rfl⟩
abbrev main_call31_v7 : Ref sig .tc := ⟨.hbm, 237, rfl⟩
abbrev main_call31_v8 : Ref sig .tc := ⟨.hbm, 238, rfl⟩
abbrev main_call31_c : Ref sig .tc := ⟨.hbm, 239, rfl⟩
abbrev main_call31_v9 : Ref sig .tc := ⟨.hbm, 240, rfl⟩
abbrev main_call31_v10 : Ref sig .tc := ⟨.hbm, 241, rfl⟩
abbrev main_call31_v11 : Ref sig .tc := ⟨.hbm, 242, rfl⟩
abbrev main_call31_c_0 : Ref sig .tc := ⟨.hbm, 243, rfl⟩
abbrev main_call31_v12 : Ref sig .tc := ⟨.hbm, 244, rfl⟩
abbrev main_call31_v13 : Ref sig .tc := ⟨.hbm, 245, rfl⟩
abbrev main_v117 : Ref sig .tc := ⟨.hbm, 246, rfl⟩
abbrev main_v118 : Ref sig .tc := ⟨.hbm, 247, rfl⟩
abbrev main_v119 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩
abbrev main_v134 : Ref sig .tc := ⟨.hbm, 263, rfl⟩

abbrev nD : Nat := 1
abbrev τ : Topo := Topo.v7x

variable {F : FTy → Type} [FloatOps F]
-- ==== Proof.Base.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

/-! What the three runs of the kernel body share: the two branch conditions in closed form over the grid points, where the
   windows are idle, and names for the staging and scratch buffers. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_1, k0_cond2, e0]
    word_cmp
   : ∀ t : Fin grid0.N, cond0_1 (grid0.coords t) ↔ t.val % 11 = 10)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S22x2x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x11264 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S32x32x1024 .bf16 := Memref.whole cc0_scratch0
abbrev scM0_1 : Memref sig .tc .vmem S2x64x8x2x128 .bf16 := Memref.whole cc0_scratch1
abbrev scM0_2 : Memref sig .tc .vmem S22x8x512 .bf16 := Memref.whole cc0_scratch2
/-- The scratch `arg7` the kernel carries between points, as a view: what it holds is stated through it. -/
abbrev VS0_0 : View sig .tc .vmem S32x32x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.RunB.lean ====
module

public import proofs.«01_k».proof.Proof.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large
set_option maxHeartbeats 2000000 in
/-- THE BODY AT A MIDDLE POINT: `arg7` is read as the first point left it, the block scales are written into `arg8` and this point's eight
    pieces into `arg9`; the pieces (last first) are the witness, which the run finds. The output's buffer is not touched. -/
def runB (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : ¬cond0_0 i) (hc1 : ¬cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) (f8 : BufTy.Contents (Elt F) arg8.view.ty) (f9 : BufTy.Contents (Elt F) arg9.view.ty) :
    { L : List (View.Piece (Elt F) S22x8x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xs0 ∗ (arg8.view.loc (c : Thread nD τ) ↦[arg8.view.set]{fullShare} f8) ∗ (arg9.view.loc (c : Thread nD τ) ↦[arg9.view.set]{fullShare} f9)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xs0 ∗ (∃ d, owns (c : Thread nD τ) arg8 fullShare d) ∗ (arg9.view.loc (c : Thread nD τ) ↦[arg9.view.set]{fullShare} arg9.view.writes (Elt F) f9 L)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨?_, fun E K => ?run⟩
  case run =>
    simp only [cc0_nf4_linear_eq_skeleton]; unfold cc0_nf4_linear_skel
    simp only [k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HS1, HS2, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; isplitr; · ipureintro; exact harg7.read_unread _
      iexact HS0
    isplitl [HS1]
    · iexists _, _; isplitr; swap; · iexact HS1
      ipureintro; rfl
    iexact HS2

end Cert.KernelIdeal.Hand

end
-- ==== Proof.RunC.lean ====
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large
set_option maxHeartbeats 2000000 in
/-- THE BODY AT THE LAST POINT: as at a middle point, and then `arg9` is read whole and the output's 22 pieces are written into `arg6`;
    the pieces of `arg6` and of `arg9` (last first) are the witness, which the run finds. -/
def runC (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : ¬cond0_0 i) (hc1 : cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) (f8 : BufTy.Contents (Elt F) arg8.view.ty) (f9 : BufTy.Contents (Elt F) arg9.view.ty) (f6 : BufTy.Contents (Elt F) arg6.view.ty) :
    { L : List (View.Piece (Elt F) S8x11264 .bf16) × List (View.Piece (Elt F) S22x8x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f6) ∗ owns (c : Thread nD τ) arg7 fullShare xs0 ∗ (arg8.view.loc (c : Thread nD τ) ↦[arg8.view.set]{fullShare} f8) ∗ (arg9.view.loc (c : Thread nD τ) ↦[arg9.view.set]{fullShare} f9)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) f6 L.1) ∗ owns (c : Thread nD τ) arg7 fullShare xs0 ∗ (∃ d, owns (c : Thread nD τ) arg8 fullShare d) ∗ (arg9.view.loc (c : Thread nD τ) ↦[arg9.view.set]{fullShare} arg9.view.writes (Elt F) f9 L.2)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨⟨?_, ?_⟩, fun E K => ?run⟩
  case run =>
    simp only [cc0_nf4_linear_eq_skeleton]; unfold cc0_nf4_linear_skel
    simp only [k0_part58_eq_skeleton, k0_part59_eq_skeleton, k0_part60_eq_skeleton, k0_part61_eq_skeleton, k0_part62_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, H5, ⟨%fs0, %hfs0, HS0⟩, HS1, HS2, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    isplitl [HS1]
    · iexists _, _; isplitr; swap; · iexact HS1
      ipureintro; rfl
    iexact HS2

end Cert.KernelIdeal.Hand

end
-- ==== Proof.RunA.lean ====
module

public import proofs.«01_k».proof.Proof.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large
set_option maxHeartbeats 2000000 in
/-- THE FIRST POINT, up to the end of the first statements: the expanded activations are written into `arg7`; the pieces (last first) and the
    values handed on are the witness, which the run finds. -/
def runA0 (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : cond0_0 i)
    (x0 : Vec F S1 .f32) (x1 : Vec F S8x8192 .bf16) (x2 : Vec F S22x2x128 .f32) (x3 : Vec F S1024x4096 .i8) (x4 : Vec F S1024x128 .i8) (f7 : BufTy.Contents (Elt F) arg7.view.ty) :
    { L : List (View.Piece (Elt F) S32x32x1024 .bf16) × (Σ' (arg0 : BitVec 32) (v3 : Elt F .f32) (v4 : IVec S1x128 32) (v7 : IVec S8x128 32) (v9 : IVec S256x128 32) (v14 : FVec F S2x128 .f32) (v30 : FVec F S2x128 .f32), IVec S2x128 32) //
      ∀ (E : Set ℕ) (K : (Σ' (arg0 : BitVec 32) (v3 : Elt F .f32) (v4 : IVec S1x128 32) (v7 : IVec S8x128 32) (v9 : IVec S256x128 32) (v14 : FVec F S2x128 .f32) (v30 : FVec F S2x128 .f32), IVec S2x128 32) → sProp 𝕄),
        iprop(owns (c : Thread nD τ) arg1 fullShare x0 ∗ owns (c : Thread nD τ) arg2 fullShare x1 ∗ owns (c : Thread nD τ) arg3 fullShare x2 ∗ owns (c : Thread nD τ) arg5 fullShare x4 ∗ (arg7.view.loc (c : Thread nD τ) ↦[arg7.view.set]{fullShare} f7)
            ∗ (iprop(owns (c : Thread nD τ) arg1 fullShare x0 ∗ owns (c : Thread nD τ) arg2 fullShare x1 ∗ owns (c : Thread nD τ) arg3 fullShare x2 ∗ owns (c : Thread nD τ) arg5 fullShare x4 ∗ (arg7.view.loc (c : Thread nD τ) ↦[arg7.view.set]{fullShare} arg7.view.writes (Elt F) f7 L.1)) -∗ K L.2))
          ⊢ wp frame (wpE (defs₀ (F := F)) Variants.none c none) E (k0_part59 i arg1 harg1 arg2 harg2 arg3 harg3 arg4 harg4 arg5 harg5 arg6 harg6 arg7 harg7 arg8 harg8 arg9 harg9) K } := by
  refine ⟨⟨?_, ?_⟩, fun E K => ?run⟩
  case run =>
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part59_eq_skeleton]
    unfold k0_part59_skel
    unfold owns
    iintro ⟨⟨%f0, %hf0, H0⟩, ⟨%f1, %hf1, H1⟩, ⟨%f2, %hf2, H2⟩, ⟨%f4, %hf4, H4⟩, HS0, Hk⟩
    obtain rfl := harg1.eq_unread hf0; obtain rfl := harg2.eq_unread hf1; obtain rfl := harg3.eq_unread hf2; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg5.read_unread _
      iexact H4
    iexact HS0

-- the run's proof term is large
set_option maxHeartbeats 2000000 in
/-- THE BODY AT THE FIRST POINT: the expanded activations are written into `arg7`, the block scales into `arg8` and this point's eight pieces
    into `arg9`, a function of what `arg7` then holds; the pieces (last first) are the witness, which the run finds. The output's buffer is not
    touched. -/
def runA (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : cond0_0 i) (hc1 : ¬cond0_1 i)
    (x0 : Vec F S1 .f32) (x1 : Vec F S8x8192 .bf16) (x2 : Vec F S22x2x128 .f32) (x3 : Vec F S1024x4096 .i8) (x4 : Vec F S1024x128 .i8) (f7 : BufTy.Contents (Elt F) arg7.view.ty) (f8 : BufTy.Contents (Elt F) arg8.view.ty) (f9 : BufTy.Contents (Elt F) arg9.view.ty) :
    { L : BufTy.Contents (Elt F) arg7.view.ty → List (View.Piece (Elt F) S22x8x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg7.view.loc (c : Thread nD τ) ↦[arg7.view.set]{fullShare} arg7.view.writes (Elt F) f7 (runA0 c i arg1 harg1 arg2 harg2 arg3 harg3 arg4 harg4 arg5 harg5 arg6 harg6 arg7 harg7 arg8 harg8 arg9 harg9 hc0 x0 x1 x2 x3 x4 f7).1.1) ∗ (∃ d, owns (c : Thread nD τ) arg8 fullShare d)
                ∗ (arg9.view.loc (c : Thread nD τ) ↦[arg9.view.set]{fullShare} arg9.view.writes (Elt F) f9 (L (arg7.view.writes (Elt F) f7 (runA0 c i arg1 harg1 arg2 harg2 arg3 harg3 arg4 harg4 arg5 harg5 arg6 harg6 arg7 harg7 arg8 harg8 arg9 harg9 hc0 x0 x1 x2 x3 x4 f7).1.1)))) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨?_, fun E K => ?run⟩
  case run =>
    rw [cc0_nf4_linear_eq_skeleton]
    unfold cc0_nf4_linear_skel
    iintro ⟨H0, H1, H2, H3, H4, HS0, HS1, HS2, Hk⟩
    rw [wp_bind]
    iapply (runA0 c i arg1 harg1 arg2 harg2 arg3 harg3 arg4 harg4 arg5 harg5 arg6 harg6 arg7 harg7 arg8 harg8 arg9 harg9 hc0 x0 x1 x2 x3 x4 f7).2 E _
    isplitl [H0]; · iexact H0
    isplitl [H1]; · iexact H1
    isplitl [H2]; · iexact H2
    isplitl [H4]; · iexact H4
    isplitl [HS0]; · iexact HS0
    generalize arg7.view.writes (Elt F) f7 (runA0 c i arg1 harg1 arg2 harg2 arg3 harg3 arg4 harg4 arg5 harg5 arg6 harg6 arg7 harg7 arg8 harg8 arg9 harg9 hc0 x0 x1 x2 x3 x4 f7).1.1 = X7
    iintro ⟨H0, H1, H2, H4, HS0⟩
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    obtain rfl := harg1.eq_unread hf0; obtain rfl := harg2.eq_unread hf1; obtain rfl := harg3.eq_unread hf2; obtain rfl := harg4.eq_unread hf3; obtain rfl := harg5.eq_unread hf4
    dsimp only [runA0]
    simp only [k0_part58_eq_skeleton, k0_part60_eq_skeleton, k0_part61_eq_skeleton, k0_part62_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexact HS0
    isplitl [HS1]
    · iexists _; iexists _; isplitr; swap; · iexact HS1
      ipureintro; rfl
    iexact HS2

end Cert.KernelIdeal.Hand
-- ==== Proof.Pieces.lean ====
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body writes, as explicit lists of pieces -/

/-- The kernel's only scalar, read off its one-element block. -/
abbrev offV (arg1 : Memref sig .tc .smem S1 .f32) (harg1 : arg1.IsWhole) (x0 : Vec F S1 .f32) : Elt F .f32 :=
  View.readAt (Elt F) arg1.view (Rect.unit ![0] S1.size inb_S1_S1_0).toLoadRect (harg1.unread x0) (Shape.Idx.first (show 0 < S1.numel by decide))

/-- The block's codes, four rows to a word. -/
abbrev codesV (arg5 : Memref sig .tc .vmem S1024x128 .i8) (harg5 : arg5.IsWhole) (x4 : Vec F S1024x128 .i8) : IVec S256x128 32 :=
  k0_pay436 (View.readAt (Elt F) arg5.view (Rect.unit ![0, 0] S1024x128.size inb_S1024x128_S1024x128_0_0).toLoadRect (harg5.unread x4))

/-- Group 0's two rows of block scales, and group 1's. -/
abbrev scaleV0 (i : grid0.Coords) (arg3 : Memref sig .tc .vmem S22x2x128 .f32) (harg3 : arg3.IsWhole) (x2 : Vec F S22x2x128 .f32) : Vec F S1x2x128 .f32 :=
  View.readAt (Elt F) arg3.view (Rect.unit (s := S22x2x128) (k0_off1 i 0#32) S1x2x128.size (k0_off1_inb i 0)).toLoadRect (harg3.unread x2)
abbrev scaleV1 (i : grid0.Coords) (arg3 : Memref sig .tc .vmem S22x2x128 .f32) (harg3 : arg3.IsWhole) (x2 : Vec F S22x2x128 .f32) : Vec F S1x2x128 .f32 :=
  View.readAt (Elt F) arg3.view (Rect.unit (s := S22x2x128) (k0_off1 i 1#32) S1x2x128.size (k0_off1_inb i 1)).toLoadRect (harg3.unread x2)

/-- The lane numbers of one row. -/
abbrev lanesV : IVec S1x128 32 := iota .tc S1x128 32 [1] iota_S1x128_d1_w32

/-- The two stores of a point's block scales (last first). -/
def amPieces (off : Elt F .f32) (codes : IVec S256x128 32) (s0 s1 : Vec F S1x2x128 .f32) : List (View.Piece (Elt F) S2x64x8x2x128 .bf16) :=
  [⟨Rect.unit ![1, 0, 0, 0, 0] S1x64x8x2x128.size inb_S2x64x8x2x128_S1x64x8x2x128_1_0_0_0_0,
      k0_pay447 off codes (k0_pay444 lanesV s1) (k0_pay445 k0_pay435) (k0_pay446 lanesV s1)⟩,
    ⟨Rect.unit ![0, 0, 0, 0, 0] S1x64x8x2x128.size inb_S2x64x8x2x128_S1x64x8x2x128_0_0_0_0_0,
      k0_pay441 off lanesV k0_pay435 codes (k0_pay437 s0) (k0_pay439 s0) k0_pay440⟩]

/-- The accumulator after the chunk loop of one point, `X7` being what the expanded activations' scratch holds. -/
def accV (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole)
    (x0 : Vec F S1 .f32) (x2 : Vec F S22x2x128 .f32) (x3 : Vec F S1024x4096 .i8) (x4 : Vec F S1024x128 .i8) (X7 : BufTy.Contents (Elt F) arg7.view.ty) : FVec F S32x256 .f32 :=
  st_k0_t1 Variants.none c none i arg1 harg1 arg2 harg2 arg3 harg3 arg4 harg4 arg5 harg5 arg6 harg6 arg7 harg7 arg8 harg8 arg9 harg9 (BitVec.ofNat 32 (i 0).val) (offV arg1 harg1 x0) (codesV arg5 harg5 x4)
    (k0_pay444 lanesV (scaleV1 i arg3 harg3 x2)) (k0_pay445 k0_pay435) (k0_pay446 lanesV (scaleV1 i arg3 harg3 x2)) (harg4.unread x3) X7
    (arg8.view.writes (Elt F) arg8.view.junk (amPieces (offV arg1 harg1 x0) (codesV arg5 harg5 x4) (scaleV0 i arg3 harg3 x2) (scaleV1 i arg3 harg3 x2)))
    k0_pay448 (Scf.trips k0_t1_loop.lb k0_t1_loop.ub k0_t1_loop.st)

/-- The eight stores of a point's sums (last first). -/
def zPieces (i : grid0.Coords) (a : FVec F S32x256 .f32) : List (View.Piece (Elt F) S22x8x512 .bf16) :=
  [⟨Rect.unit (k0_off9 i 1#32) ![1, 8, 128] (k0_off9_inb i 1), k0_pay3 a⟩,
    ⟨Rect.unit (k0_off8 i 1#32) ![1, 8, 128] (k0_off8_inb i 1), k0_pay2 a⟩,
    ⟨Rect.unit (k0_off7 i 1#32) ![1, 8, 128] (k0_off7_inb i 1), k0_pay1 (k0_pay456 a)⟩,
    ⟨Rect.unit (k0_off6 i 1#32) ![1, 8, 128] (k0_off6_inb i 1), k0_pay455 a⟩,
    ⟨Rect.unit (k0_off9 i 0#32) ![1, 8, 128] (k0_off9_inb i 0), k0_pay454 a⟩,
    ⟨Rect.unit (k0_off8 i 0#32) ![1, 8, 128] (k0_off8_inb i 0), k0_pay453 a⟩,
    ⟨Rect.unit (k0_off7 i 0#32) ![1, 8, 128] (k0_off7_inb i 0), k0_pay452 (k0_pay451 a)⟩,
    ⟨Rect.unit (k0_off6 i 0#32) ![1, 8, 128] (k0_off6_inb i 0), k0_pay450 a⟩]

/-- The twenty-two stores of the result (last first), from what the sums' scratch holds. -/
def outPieces (V : Vec F S22x8x512 .bf16) : List (View.Piece (Elt F) S8x11264 .bf16) :=
  [⟨Rect.unit ![0, 10752] ![8, 512] inb_S8x11264_S8x512_0_10752, k0_pay5 (k0_pay413 V)⟩,
    ⟨Rect.unit ![0, 10240] ![8, 512] inb_S8x11264_S8x512_0_10240, k0_pay4 (k0_pay413 V)⟩,
    ⟨Rect.unit ![0, 9728] ![8, 512] inb_S8x11264_S8x512_0_9728, k0_pay433 (k0_pay413 V)⟩,
    ⟨Rect.unit ![0, 9216] ![8, 512] inb_S8x11264_S8x512_0_9216, k0_pay432 (k0_pay413 V)⟩,
    ⟨Rect.unit ![0, 8704] ![8, 512] inb_S8x11264_S8x512_0_8704, k0_pay431 (k0_pay413 V)⟩,
    ⟨Rect.unit ![0, 8192] ![8, 512] inb_S8x11264_S8x512_0_8192, k0_pay430 (k0_pay413 V)⟩,
    ⟨Rect.unit ![0, 7680] ![8, 512] inb_S8x11264_S8x512_0_7680, k0_pay429 (k0_pay413 V)⟩,
    ⟨Rect.unit ![0, 7168] ![8, 512] inb_S8x11264_S8x512_0_7168, k0_pay428 (k0_pay413 V)⟩,
    ⟨Rect.unit ![0, 6656] ![8, 512] inb_S8x11264_S8x512_0_6656, k0_pay427 (k0_pay413 V)⟩,
    ⟨Rect.unit ![0, 6144] ![8, 512] inb_S8x11264_S8x512_0_6144, k0_pay426 (k0_pay413 V)⟩,
    ⟨Rect.unit ![0, 5632] ![8, 512] inb_S8x11264_S8x512_0_5632, k0_pay425 (k0_pay413 V)⟩,
    ⟨Rect.unit ![0, 5120] ![8, 512] inb_S8x11264_S8x512_0_5120, k0_pay424 (k0_pay413 V)⟩,
    ⟨Rect.unit ![0, 4608] ![8, 512] inb_S8x11264_S8x512_0_4608, k0_pay423 (k0_pay413 V)⟩,
    ⟨Rect.unit ![0, 4096] ![8, 512] inb_S8x11264_S8x512_0_4096, k0_pay422 (k0_pay413 V)⟩,
    ⟨Rect.unit ![0, 3584] ![8, 512] inb_S8x11264_S8x512_0_3584, k0_pay421 V⟩,
    ⟨Rect.unit ![0, 3072] ![8, 512] inb_S8x11264_S8x512_0_3072, k0_pay420 V⟩,
    ⟨Rect.unit ![0, 2560] ![8, 512] inb_S8x11264_S8x512_0_2560, k0_pay419 V⟩,
    ⟨Rect.unit ![0, 2048] ![8, 512] inb_S8x11264_S8x512_0_2048, k0_pay418 V⟩,
    ⟨Rect.unit ![0, 1536] ![8, 512] inb_S8x11264_S8x512_0_1536, k0_pay417 V⟩,
    ⟨Rect.unit ![0, 1024] ![8, 512] inb_S8x11264_S8x512_0_1024, k0_pay416 V⟩,
    ⟨Rect.unit ![0, 512] ![8, 512] inb_S8x11264_S8x512_0_512, k0_pay415 V⟩,
    ⟨Rect.unit ![0, 0] ![8, 512] inb_S8x11264_S8x512_0_0, k0_pay414 V⟩]

set_option maxHeartbeats 100000 in
theorem runB_eq (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : ¬cond0_0 i) (hc1 : ¬cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) (f8 : BufTy.Contents (Elt F) arg8.view.ty) (f9 : BufTy.Contents (Elt F) arg9.view.ty) :
    (runB c i arg1 harg1 arg2 harg2 arg3 harg3 arg4 harg4 arg5 harg5 arg6 harg6 arg7 harg7 arg8 harg8 arg9 harg9 hc0 hc1 x0 x1 x2 x3 x4 xs0 f8 f9).1 = zPieces i (accV c i arg1 harg1 arg2 harg2 arg3 harg3 arg4 harg4 arg5 harg5 arg6 harg6 arg7 harg7 arg8 harg8 arg9 harg9 x0 x2 x3 x4 (harg7.unread xs0)) := rfl

set_option maxHeartbeats 100000 in
theorem runA_eq (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : cond0_0 i) (hc1 : ¬cond0_1 i)
    (x0 : Vec F S1 .f32) (x1 : Vec F S8x8192 .bf16) (x2 : Vec F S22x2x128 .f32) (x3 : Vec F S1024x4096 .i8) (x4 : Vec F S1024x128 .i8) (f7 X7 : BufTy.Contents (Elt F) arg7.view.ty) (f8 : BufTy.Contents (Elt F) arg8.view.ty) (f9 : BufTy.Contents (Elt F) arg9.view.ty) :
    (runA c i arg1 harg1 arg2 harg2 arg3 harg3 arg4 harg4 arg5 harg5 arg6 harg6 arg7 harg7 arg8 harg8 arg9 harg9 hc0 hc1 x0 x1 x2 x3 x4 f7 f8 f9).1 X7 = zPieces i (accV c i arg1 harg1 arg2 harg2 arg3 harg3 arg4 harg4 arg5 harg5 arg6 harg6 arg7 harg7 arg8 harg8 arg9 harg9 x0 x2 x3 x4 X7) := rfl

set_option maxHeartbeats 100000 in
theorem runC_eq (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : ¬cond0_0 i) (hc1 : cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) (f8 : BufTy.Contents (Elt F) arg8.view.ty) (f9 : BufTy.Contents (Elt F) arg9.view.ty) (f6 : BufTy.Contents (Elt F) arg6.view.ty) :
    (runC c i arg1 harg1 arg2 harg2 arg3 harg3 arg4 harg4 arg5 harg5 arg6 harg6 arg7 harg7 arg8 harg8 arg9 harg9 hc0 hc1 x0 x1 x2 x3 x4 xs0 f8 f9 f6).1.2 = zPieces i (accV c i arg1 harg1 arg2 harg2 arg3 harg3 arg4 harg4 arg5 harg5 arg6 harg6 arg7 harg7 arg8 harg8 arg9 harg9 x0 x2 x3 x4 (harg7.unread xs0)) := rfl

set_option maxHeartbeats 100000 in
theorem runC_out (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : ¬cond0_0 i) (hc1 : cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) (f8 : BufTy.Contents (Elt F) arg8.view.ty) (f9 : BufTy.Contents (Elt F) arg9.view.ty) (f6 : BufTy.Contents (Elt F) arg6.view.ty) :
    (runC c i arg1 harg1 arg2 harg2 arg3 harg3 arg4 harg4 arg5 harg5 arg6 harg6 arg7 harg7 arg8 harg8 arg9 harg9 hc0 hc1 x0 x1 x2 x3 x4 xs0 f8 f9 f6).1.1
      = outPieces (View.readAt (Elt F) arg9.view (Rect.unit ![0, 0, 0] S22x8x512.size inb_S22x8x512_S22x8x512_0_0_0).toLoadRect
          (arg9.view.writes (Elt F) f9 (zPieces i (accV c i arg1 harg1 arg2 harg2 arg3 harg3 arg4 harg4 arg5 harg5 arg6 harg6 arg7 harg7 arg8 harg8 arg9 harg9 x0 x2 x3 x4 (harg7.unread xs0))))) := rfl

end Cert.KernelIdeal.Hand
-- ==== Proof.Stores.lean ====
module

public import proofs.«01_k».proof.Proof.Pieces
public import Idealize.ShloMosaic.Lib.Pointwise
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Reading

variable {sig' : RefSig} {κ : Kind} {sp : Space} {s : Shape} {e : EltTy} {Val : EltTy → Type}

/-- Writes whose every payload agrees with one function: an index some piece covers reads that function. -/
theorem read_writes_agree (v : View sig' κ sp s e) (f : v.ty.Contents Val) (G : s.Idx → Val e) (y : s.Idx) :
    ∀ L : List (View.Piece Val s e), (∀ p ∈ L, ∀ x : p.1.shape.Idx, p.2 x = G (p.1.emb x)) → (∃ p ∈ L, y ∈ p.1.set) →
      v.read Val (v.writes Val f L) y = G y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_agree v f G y L (fun q hq => hP q (List.mem_cons_of_mem _ hq)) ?_
      obtain ⟨q, hq, hyq⟩ := h
      rcases List.mem_cons.mp hq with rfl | hq'
      · exact absurd hyq hy
      · exact ⟨q, hq', hyq⟩

/-- An index no piece covers reads what the buffer held. -/
theorem read_writes_outside (v : View sig' κ sp s e) (f : v.ty.Contents Val) (y : s.Idx) :
    ∀ L : List (View.Piece Val s e), (∀ p ∈ L, y ∉ p.1.set) → v.read Val (v.writes Val f L) y = v.read Val f y
  | [], _ => rfl
  | p :: L, h => by
    have hy' : y ∉ Finset.univ.map p.1.emb := by rw [Rect.map_emb_univ]; exact h p List.mem_cons_self
    rw [View.writes_cons, View.read_slice_write_of_not_mem p.1 _ _ _ hy']
    exact read_writes_outside v f y L fun q hq => h q (List.mem_cons_of_mem _ hq)

end Reading

/-- What the sums' scratch holds at `y` once the point of its row pair has run, `a` being that point's accumulator. -/
def zAt (a : FVec F S32x256 .f32) (y : S22x8x512.Idx) : F .bf16 :=
  (truncf .bf16 a bitsLt_bf16_f32 : FVec F S32x256 .bf16)
    (ix2 ⟨8 * ((y 2).val / 128) + (y 1).val, by
        have h1 : (y 1).val < 8 := (y 1).isLt
        have h2 : (y 2).val < 512 := (y 2).isLt
        omega⟩ ⟨(y 0).val % 2 * 128 + (y 2).val % 128, by omega⟩)

theorem zpiece_agree (a : FVec F S32x256 .f32) (i g q : ℕ) (hg : g < 2) (hq : q < 4) (off : Fin 3 → ℕ)
    (inb : ∀ a, off a + (![1, 8, 128] : Fin 3 → ℕ) a ≤ S22x8x512.size a) (hoff : off = ![2 * i + g, 0, 128 * q]) (pay : FVec F S1x8x128 .bf16)
    (hpay : ∀ (r : Fin 8) (l : Fin 128), pay (ix3 0 r l)
      = (truncf .bf16 a bitsLt_bf16_f32 : FVec F S32x256 .bf16) (ix2 ⟨8 * q + r.val, by omega⟩ ⟨g * 128 + l.val, by omega⟩)) :
    ∀ x : S1x8x128.Idx, pay x = zAt a ((Rect.unit (s := S22x8x512) off ![1, 8, 128] inb).emb x) := by
  subst hoff
  intro x
  have e0 : ((Rect.unit (s := S22x8x512) ![2 * i + g, 0, 128 * q] ![1, 8, 128] inb).emb x 0).val = 2 * i + g + 1 * (x 0).val := rfl
  have e1 : ((Rect.unit (s := S22x8x512) ![2 * i + g, 0, 128 * q] ![1, 8, 128] inb).emb x 1).val = 0 + 1 * (x 1).val := rfl
  have e2 : ((Rect.unit (s := S22x8x512) ![2 * i + g, 0, 128 * q] ![1, 8, 128] inb).emb x 2).val = 128 * q + 1 * (x 2).val := rfl
  have hx0 : (x 0).val < 1 := (x 0).isLt
  have hx1 : (x 1).val < 8 := (x 1).isLt
  have hx2 : (x 2).val < 128 := (x 2).isLt
  have hx : x = ix3 0 (x 1) (x 2) := by
    rw [eq_ix3 x]; congr 1; exact Fin.ext (by show (x 0).val = 0; omega)
  refine (congrArg pay hx).trans ((hpay (x 1) (x 2)).trans ?_)
  unfold zAt
  congr 2
  · exact Fin.ext (by show 8 * q + (x 1).val = _; simp only [e1, e2]; omega)
  · exact Fin.ext (by show g * 128 + (x 2).val = _; simp only [e0, e2]; omega)

theorem zmem (i g q : ℕ) (hg : g < 2) (hq : q < 4) (off : Fin 3 → ℕ)
    (inb : ∀ a, off a + (![1, 8, 128] : Fin 3 → ℕ) a ≤ S22x8x512.size a) (hoff : off = ![2 * i + g, 0, 128 * q]) (y : S22x8x512.Idx) :
    y ∈ (Rect.unit (s := S22x8x512) off ![1, 8, 128] inb).set ↔ ((y 0).val = 2 * i + g ∧ (y 2).val / 128 = q) := by
  subst hoff
  have h1 : (y 1).val < 8 := (y 1).isLt
  rw [Rect.mem_set_unit]
  constructor
  · intro h
    have a0 : 2 * i + g ≤ (y 0).val ∧ (y 0).val < 2 * i + g + 1 := h 0
    have a2 : 128 * q ≤ (y 2).val ∧ (y 2).val < 128 * q + 128 := h 2
    omega
  · rintro ⟨h0, h2⟩ a
    fin_cases a
    · show 2 * i + g ≤ (y 0).val ∧ (y 0).val < 2 * i + g + 1; omega
    · show 0 ≤ (y 1).val ∧ (y 1).val < 0 + 8; omega
    · show 128 * q ≤ (y 2).val ∧ (y 2).val < 128 * q + 128; omega

theorem zPieces_agree (i : grid0.Coords) (a : FVec F S32x256 .f32) :
    ∀ p ∈ zPieces i a, ∀ x : p.1.shape.Idx, p.2 x = zAt a (p.1.emb x) := by
  unfold zPieces
  simp only [List.forall_mem_cons]
  refine ⟨?_, ?_, ?_, ?_, ?_, ?_, ?_, ?_, fun p hp => absurd hp List.not_mem_nil⟩
  · exact zpiece_agree a (i 0).val 1 3 (by omega) (by omega) _ _ (k0_off9_eq i 1) _ (fun r l => by pointwise [k0_pay450, k0_pay451, k0_pay452, k0_pay453, k0_pay454, k0_pay455, k0_pay456, k0_pay1, k0_pay2, k0_pay3]; try (congr 2; first | rfl | (apply Fin.ext; simp; try omega)))
  · exact zpiece_agree a (i 0).val 1 2 (by omega) (by omega) _ _ (k0_off8_eq i 1) _ (fun r l => by pointwise [k0_pay450, k0_pay451, k0_pay452, k0_pay453, k0_pay454, k0_pay455, k0_pay456, k0_pay1, k0_pay2, k0_pay3]; try (congr 2; first | rfl | (apply Fin.ext; simp; try omega)))
  · exact zpiece_agree a (i 0).val 1 1 (by omega) (by omega) _ _ (k0_off7_eq i 1) _ (fun r l => by pointwise [k0_pay450, k0_pay451, k0_pay452, k0_pay453, k0_pay454, k0_pay455, k0_pay456, k0_pay1, k0_pay2, k0_pay3]; try (congr 2; first | rfl | (apply Fin.ext; simp; try omega)))
  · exact zpiece_agree a (i 0).val 1 0 (by omega) (by omega) _ _ (k0_off6_eq i 1) _ (fun r l => by pointwise [k0_pay450, k0_pay451, k0_pay452, k0_pay453, k0_pay454, k0_pay455, k0_pay456, k0_pay1, k0_pay2, k0_pay3]; try (congr 2; first | rfl | (apply Fin.ext; simp; try omega)))
  · exact zpiece_agree a (i 0).val 0 3 (by omega) (by omega) _ _ (k0_off9_eq i 0) _ (fun r l => by pointwise [k0_pay450, k0_pay451, k0_pay452, k0_pay453, k0_pay454, k0_pay455, k0_pay456, k0_pay1, k0_pay2, k0_pay3]; try (congr 2; first | rfl | (apply Fin.ext; simp; try omega)))
  · exact zpiece_agree a (i 0).val 0 2 (by omega) (by omega) _ _ (k0_off8_eq i 0) _ (fun r l => by pointwise [k0_pay450, k0_pay451, k0_pay452, k0_pay453, k0_pay454, k0_pay455, k0_pay456, k0_pay1, k0_pay2, k0_pay3]; try (congr 2; first | rfl | (apply Fin.ext; simp; try omega)))
  · exact zpiece_agree a (i 0).val 0 1 (by omega) (by omega) _ _ (k0_off7_eq i 0) _ (fun r l => by pointwise [k0_pay450, k0_pay451, k0_pay452, k0_pay453, k0_pay454, k0_pay455, k0_pay456, k0_pay1, k0_pay2, k0_pay3]; try (congr 2; first | rfl | (apply Fin.ext; simp; try omega)))
  · exact zpiece_agree a (i 0).val 0 0 (by omega) (by omega) _ _ (k0_off6_eq i 0) _ (fun r l => by pointwise [k0_pay450, k0_pay451, k0_pay452, k0_pay453, k0_pay454, k0_pay455, k0_pay456, k0_pay1, k0_pay2, k0_pay3]; try (congr 2; first | rfl | (apply Fin.ext; simp; try omega)))

theorem zPieces_mem (i : grid0.Coords) (a : FVec F S32x256 .f32) (y : S22x8x512.Idx) :
    (∃ p ∈ zPieces i a, y ∈ p.1.set) ↔ (y 0).val / 2 = (i 0).val := by
  have h2 : (y 2).val < 512 := (y 2).isLt
  unfold zPieces
  simp only [List.exists_mem_cons_iff, List.not_mem_nil, false_and, exists_false, or_false]
  refine (or_congr (zmem (i 0).val 1 3 (by omega) (by omega) _ _ (k0_off9_eq i 1) y) (or_congr (zmem (i 0).val 1 2 (by omega) (by omega) _ _ (k0_off8_eq i 1) y) (or_congr (zmem (i 0).val 1 1 (by omega) (by omega) _ _ (k0_off7_eq i 1) y) (or_congr (zmem (i 0).val 1 0 (by omega) (by omega) _ _ (k0_off6_eq i 1) y) (or_congr (zmem (i 0).val 0 3 (by omega) (by omega) _ _ (k0_off9_eq i 0) y) (or_congr (zmem (i 0).val 0 2 (by omega) (by omega) _ _ (k0_off8_eq i 0) y) (or_congr (zmem (i 0).val 0 1 (by omega) (by omega) _ _ (k0_off7_eq i 0) y) (zmem (i 0).val 0 0 (by omega) (by omega) _ _ (k0_off6_eq i 0) y)))))))).trans ?_
  omega

/-- After a point's eight stores: its own row pair reads its sums, every other row what it held. -/
theorem read_zPieces (v : View sig .tc .vmem S22x8x512 .bf16) (f : v.ty.Contents (Elt F)) (i : grid0.Coords) (a : FVec F S32x256 .f32) (y : S22x8x512.Idx) :
    v.read (Elt F) (v.writes (Elt F) f (zPieces i a)) y = if (y 0).val / 2 = (i 0).val then zAt a y else v.read (Elt F) f y := by
  by_cases h : (y 0).val / 2 = (i 0).val
  · rw [if_pos h]
    exact read_writes_agree v f (zAt a) y _ (zPieces_agree i a) ((zPieces_mem i a y).mpr h)
  · rw [if_neg h]
    refine read_writes_outside v f y _ fun p hp hy => h ((zPieces_mem i a y).mp ⟨p, hp, hy⟩)

/-- The whole output at `y`, from what the sums' scratch holds. -/
def outAt (V : Vec F S22x8x512 .bf16) (y : S8x11264.Idx) : F .bf16 :=
  k0_pay413 V (ix2 ⟨8 * ((y 1).val / 512) + (y 0).val, by
        have h1 : (y 1).val < 11264 := (y 1).isLt
        have h2 : (y 0).val < 8 := (y 0).isLt
        omega⟩ ⟨(y 1).val % 512, by omega⟩)

theorem opiece_agree (V : Vec F S22x8x512 .bf16) (k : ℕ) (hk : k < 22)
    (inb : ∀ a, (![0, 512 * k] : Fin 2 → ℕ) a + (![8, 512] : Fin 2 → ℕ) a ≤ S8x11264.size a) (pay : FVec F S8x512 .bf16)
    (hpay : ∀ (r : Fin 8) (l : Fin 512), pay (ix2 r l) = k0_pay413 V (ix2 ⟨8 * k + r.val, by omega⟩ l)) :
    ∀ x : S8x512.Idx, pay x = outAt V ((Rect.unit (s := S8x11264) ![0, 512 * k] ![8, 512] inb).emb x) := by
  intro x
  have e0 : ((Rect.unit (s := S8x11264) ![0, 512 * k] ![8, 512] inb).emb x 0).val = 0 + 1 * (x 0).val := rfl
  have e1 : ((Rect.unit (s := S8x11264) ![0, 512 * k] ![8, 512] inb).emb x 1).val = 512 * k + 1 * (x 1).val := rfl
  have hx0 : (x 0).val < 8 := (x 0).isLt
  have hx1 : (x 1).val < 512 := (x 1).isLt
  refine (congrArg pay (eq_ix2 x)).trans ((hpay (x 0) (x 1)).trans ?_)
  unfold outAt
  congr 2
  · exact Fin.ext (by show 8 * k + (x 0).val = _; simp only [e0, e1]; omega)
  · exact Fin.ext (by show (x 1).val = _; simp only [e1]; omega)

theorem extractStridedSlice_at (V : Vec F S22x8x512 .bf16) (k : ℕ) (hk : k < 22) (h : S176x512.Slices ![8 * k, 0] S8x512) (r : Fin 8) (l : Fin 512) :
    extractStridedSlice S8x512 ![8 * k, 0] (k0_pay413 V) h (ix2 r l) = k0_pay413 V (ix2 ⟨8 * k + r.val, by omega⟩ l) := by
  pointwise []

theorem outPieces_agree (V : Vec F S22x8x512 .bf16) :
    ∀ p ∈ outPieces V, ∀ x : p.1.shape.Idx, p.2 x = outAt V (p.1.emb x) := by
  unfold outPieces
  simp only [List.forall_mem_cons]
  refine ⟨?_, ?_, ?_, ?_, ?_, ?_, ?_, ?_, ?_, ?_, ?_, ?_, ?_, ?_, ?_, ?_, ?_, ?_, ?_, ?_, ?_, ?_, fun p hp => absurd hp List.not_mem_nil⟩
  · exact opiece_agree V 21 (by omega) _ _ (fun r l => by unfold k0_pay5; exact extractStridedSlice_at V 21 (by omega) _ r l)
  · exact opiece_agree V 20 (by omega) _ _ (fun r l => by unfold k0_pay4; exact extractStridedSlice_at V 20 (by omega) _ r l)
  · exact opiece_agree V 19 (by omega) _ _ (fun r l => by unfold k0_pay433; exact extractStridedSlice_at V 19 (by omega) _ r l)
  · exact opiece_agree V 18 (by omega) _ _ (fun r l => by unfold k0_pay432; exact extractStridedSlice_at V 18 (by omega) _ r l)
  · exact opiece_agree V 17 (by omega) _ _ (fun r l => by unfold k0_pay431; exact extractStridedSlice_at V 17 (by omega) _ r l)
  · exact opiece_agree V 16 (by omega) _ _ (fun r l => by unfold k0_pay430; exact extractStridedSlice_at V 16 (by omega) _ r l)
  · exact opiece_agree V 15 (by omega) _ _ (fun r l => by unfold k0_pay429; exact extractStridedSlice_at V 15 (by omega) _ r l)
  · exact opiece_agree V 14 (by omega) _ _ (fun r l => by unfold k0_pay428; exact extractStridedSlice_at V 14 (by omega) _ r l)
  · exact opiece_agree V 13 (by omega) _ _ (fun r l => by unfold k0_pay427; exact extractStridedSlice_at V 13 (by omega) _ r l)
  · exact opiece_agree V 12 (by omega) _ _ (fun r l => by unfold k0_pay426; exact extractStridedSlice_at V 12 (by omega) _ r l)
  · exact opiece_agree V 11 (by omega) _ _ (fun r l => by unfold k0_pay425; exact extractStridedSlice_at V 11 (by omega) _ r l)
  · exact opiece_agree V 10 (by omega) _ _ (fun r l => by unfold k0_pay424; exact extractStridedSlice_at V 10 (by omega) _ r l)
  · exact opiece_agree V 9 (by omega) _ _ (fun r l => by unfold k0_pay423; exact extractStridedSlice_at V 9 (by omega) _ r l)
  · exact opiece_agree V 8 (by omega) _ _ (fun r l => by unfold k0_pay422; exact extractStridedSlice_at V 8 (by omega) _ r l)
  · exact opiece_agree V 7 (by omega) _ _ (fun r l => by unfold k0_pay421; exact extractStridedSlice_at V 7 (by omega) _ r l)
  · exact opiece_agree V 6 (by omega) _ _ (fun r l => by unfold k0_pay420; exact extractStridedSlice_at V 6 (by omega) _ r l)
  · exact opiece_agree V 5 (by omega) _ _ (fun r l => by unfold k0_pay419; exact extractStridedSlice_at V 5 (by omega) _ r l)
  · exact opiece_agree V 4 (by omega) _ _ (fun r l => by unfold k0_pay418; exact extractStridedSlice_at V 4 (by omega) _ r l)
  · exact opiece_agree V 3 (by omega) _ _ (fun r l => by unfold k0_pay417; exact extractStridedSlice_at V 3 (by omega) _ r l)
  · exact opiece_agree V 2 (by omega) _ _ (fun r l => by unfold k0_pay416; exact extractStridedSlice_at V 2 (by omega) _ r l)
  · exact opiece_agree V 1 (by omega) _ _ (fun r l => by unfold k0_pay415; exact extractStridedSlice_at V 1 (by omega) _ r l)
  · exact opiece_agree V 0 (by omega) _ _ (fun r l => by unfold k0_pay414; exact extractStridedSlice_at V 0 (by omega) _ r l)

theorem outPieces_cover (V : Vec F S22x8x512 .bf16) (y : S8x11264.Idx) : ∃ p ∈ outPieces V, y ∈ p.1.set :=
  View.cover_of_tiledL (outPieces V) ![8, 512] (by sl_kernel_rfl) y

theorem read_outPieces (v : View sig .tc .vmem S8x11264 .bf16) (f : v.ty.Contents (Elt F)) (V : Vec F S22x8x512 .bf16) :
    v.read (Elt F) (v.writes (Elt F) f (outPieces V)) = outAt V :=
  funext fun y => read_writes_agree v f (outAt V) y _ (outPieces_agree V) (outPieces_cover V y)

end Cert.KernelIdeal.Hand
-- ==== Proof.Body.lean ====
module

public import proofs.«01_k».proof.Proof.Stores
public import Idealize.ShloMosaic.Lib.Claim
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for scratch `arg7` cover it. -/
theorem scoverA (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : cond0_0 i)
    (x0 : Vec F S1 .f32) (x1 : Vec F S8x8192 .bf16) (x2 : Vec F S22x2x128 .f32) (x3 : Vec F S1024x4096 .i8) (x4 : Vec F S1024x128 .i8) (f7 : BufTy.Contents (Elt F) arg7.view.ty) (y : S32x32x1024.Idx) :
    ∃ pc ∈ (runA0 c i arg1 harg1 arg2 harg2 arg3 harg3 arg4 harg4 arg5 harg5 arg6 harg6 arg7 harg7 arg8 harg8 arg9 harg9 hc0 x0 x1 x2 x3 x4 f7).1.1, y ∈ pc.1.set :=
  View.cover_of_tiledL (runA0 c i arg1 harg1 arg2 harg2 arg3 harg3 arg4 harg4 arg5 harg5 arg6 harg6 arg7 harg7 arg8 harg8 arg9 harg9 hc0 x0 x1 x2 x3 x4 f7).1.1 S1x8x1024.size (by sl_kernel_rfl) y

/-- The last point's output pieces, once what the sums' scratch reads is known. -/
theorem runC_out_of (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : ¬cond0_0 i) (hc1 : cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) (f8 : BufTy.Contents (Elt F) arg8.view.ty) (f9 : BufTy.Contents (Elt F) arg9.view.ty) (f6 : BufTy.Contents (Elt F) arg6.view.ty)
    (V : Vec F S22x8x512 .bf16)
    (hV : ∀ y, arg9.view.read (Elt F) (arg9.view.writes (Elt F) f9 (zPieces i (accV c i arg1 harg1 arg2 harg2 arg3 harg3 arg4 harg4 arg5 harg5 arg6 harg6 arg7 harg7 arg8 harg8 arg9 harg9 x0 x2 x3 x4 (harg7.unread xs0)))) y = V y) :
    (runC c i arg1 harg1 arg2 harg2 arg3 harg3 arg4 harg4 arg5 harg5 arg6 harg6 arg7 harg7 arg8 harg8 arg9 harg9 hc0 hc1 x0 x1 x2 x3 x4 xs0 f8 f9 f6).1.1 = outPieces V :=
  (runC_out c i arg1 harg1 arg2 harg2 arg3 harg3 arg4 harg4 arg5 harg5 arg6 harg6 arg7 harg7 arg8 harg8 arg9 harg9 hc0 hc1 x0 x1 x2 x3 x4 xs0 f8 f9 f6).trans
    (congrArg outPieces ((View.readAt_full _ _ inb_S22x8x512_S22x8x512_0_0_0).trans (funext hV)))

/-- The first point. -/
abbrev t0 : Fin cfg0.N := ⟨0, by rw [show cfg0.N = 11 from N_0]; omega⟩

theorem condA : cond0_0 (grid0.coords t0) := (hcond0_0 t0).mpr rfl

/-- What the first point leaves in scratch `arg7`: the expanded activations. -/
def XE (c : Dev nD) : Vec F S32x32x1024 .bf16 :=
  VS0_0.read (Elt F) (VS0_0.writes (Elt F) VS0_0.junk (runA0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) condA (iblk m c 0 t0) (iblk m c 1 t0) (iblk m c 2 t0) (iblk m c 3 t0) (iblk m c 4 t0) VS0_0.junk).1.1)

/-- The accumulator point `t` ends with. -/
def acc (c : Dev nD) (t : Fin cfg0.N) : FVec F S32x256 .f32 :=
  accV c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 2 t) (iblk m c 3 t) (iblk m c 4 t) ((Memref.isWhole_whole cc0_scratch0).unread (XE m c))

/-- What the sums' scratch holds at `y` from the point of `y`'s row pair on. -/
def Zval (c : Dev nD) (y : S22x8x512.Idx) : F .bf16 :=
  zAt (acc m c ⟨(y 0).val / 2, by
    have h : (y 0).val < 22 := (y 0).isLt
    rw [show cfg0.N = 11 from N_0]; omega⟩) y

theorem coord0 (t : Fin cfg0.N) : (grid0.coords t 0).val = t.val := by
  have ht : t.val < 11 := Nat.lt_of_lt_of_eq t.isLt N_0
  have e0 : (grid0.coords t 0).val = t.val / 1 % 11 := Pipeline.Grid.coords_val t 0 (by decide) rfl
  omega

/-- One point's step on the sums' scratch. -/
theorem Z_step (c : Dev nD) (t : Fin cfg0.N) (v : View sig .tc .vmem S22x8x512 .bf16) (f : v.ty.Contents (Elt F))
    (hf : ∀ y : S22x8x512.Idx, (y 0).val / 2 < t.val → v.read (Elt F) f y = Zval m c y) (y : S22x8x512.Idx) (hy : (y 0).val / 2 < t.val + 1) :
    v.read (Elt F) (v.writes (Elt F) f (zPieces (grid0.coords t) (acc m c t))) y = Zval m c y := by
  rw [read_zPieces, coord0]
  by_cases h : (y 0).val / 2 = t.val
  · rw [if_pos h]
    unfold Zval
    congr 2
    exact Fin.ext h.symm
  · rw [if_neg h]; exact hf y (by omega)

/-- The region invariant before position `n`: before the first point every scratch at anything; afterwards the expanded
    activations in theirs, the block scales' at anything, the sums' at the sums of the points that have run. -/
def PhiS (c : Dev nD) : (n : ℕ) → n ≤ cfg0.N → sProp 𝕄
  | 0, _ => Pipeline.ΦA spec0 c
  | n + 1, hn => iprop(iprop(owns (c : Thread nD τ) scM0_0 fullShare (XE m c) ∗ (∃ d, owns (c : Thread nD τ) scM0_1 fullShare d)
      ∗ (∃ d, ⌜∀ y : S22x8x512.Idx, (y 0).val / 2 < n + 1 → d y = Zval m c y⌝ ∗ owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (XE m c) ∗ (∃ d, owns (c : Thread nD τ) scM0_1 fullShare d)
      ∗ (∃ d, ⌜∀ y : S22x8x512.Idx, (y 0).val / 2 < n + 1 → d y = Zval m c y⌝ ∗ owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (XE m c) ∗ (∃ d, owns (c : Thread nD τ) scM0_1 fullShare d)
      ∗ (∃ d, ⌜∀ y : S22x8x512.Idx, (y 0).val / 2 < n → d y = Zval m c y⌝ ∗ owns (c : Thread nD τ) scM0_2 fullShare d)) ∗ (∃ r, prngReg c r)) := by
  cases n with
  | zero => exact absurd rfl hz
  | succ n => rfl

/-! ## The pipeline's proof data -/

/-- The arrays as the region finds them; after the body at point `t` each input's buffer at its block and the output's,
    written at the last point, at the reordered sums; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt (Zval m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt (Zval m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output's window is not written back before the last point, -/
theorem flush5 : ∀ t : Fin cfg0.N, ¬t.val % 11 = 10 → (cfg0.win 5).flush t = false := by decide +kernel

theorem idle5 (t : Fin cfg0.N) (h : ¬t.val % 11 = 10) : cfg0.idle 5 (grid0.coords t) = true := by
  show (!(k0_cond2 (grid0.coords t) == 1#1)) = true
  have h' : ¬ k0_cond2 (grid0.coords t) = 1#1 := fun h' => h ((hcond0_1 t).mp h')
  simp [h']

theorem live5 (t : Fin cfg0.N) (h : t.val % 11 = 10) : cfg0.idle 5 (grid0.coords t) = false := by
  show (!(k0_cond2 (grid0.coords t) == 1#1)) = false
  have h' : k0_cond2 (grid0.coords t) = 1#1 := (hcond0_1 t).mpr h
  simp [h']

/-- so a point before it hands the output's buffer back as found, -/
theorem leaves5_early (c : Dev nD) (t : Fin cfg0.N) (h : ¬t.val % 11 = 10) :
    (dats m 0 c).leavesExact 5 t = iprop(∃ d, owns (c : Thread nD τ) (ms0_5 t) fullShare ((dats m 0 c).before 5 t d)) :=
  (dats m 0 c).leavesExact_idle 5 t (idle5 t h) (flush5 t h)

/-- and the last at the whole result. -/
theorem leaves5_last (c : Dev nD) (t : Fin cfg0.N) (h : t.val % 11 = 10) :
    (dats m 0 c).leavesExact 5 t = owns (c : Thread nD τ) (ms0_5 t) fullShare (outAt (Zval m c)) := by
  rw [← after0_5 m c t]
  unfold Dat.leavesExact
  rw [live5 t h]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- What the first point's stores make of scratch `arg7`, whatever it held. -/
theorem XE_raw (c : Dev nD) (f7 : BufTy.Contents (Elt F) scM0_0.view.ty) :
    scM0_0.view.read (Elt F) (scM0_0.view.writes (Elt F) f7 (runA0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) condA (iblk m c 0 t0) (iblk m c 1 t0) (iblk m c 2 t0) (iblk m c 3 t0) (iblk m c 4 t0) f7).1.1) = XE m c :=
  View.read_writes_of_cover _ _ _ _ _ (scoverA c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) condA (iblk m c 0 t0) (iblk m c 1 t0) (iblk m c 2 t0) (iblk m c 3 t0) (iblk m c 4 t0) f7)

set_option maxHeartbeats 400000 in
theorem sound_A (c : Dev nD) (t : Fin cfg0.N) (ht : t.val = 0) :
    bodyPre m c t ⊢ wp frame (wpE (defs₀ (F := F)) Variants.none c none) Set.univ (bodyAt0 t) (fun _ => bodyPost m c t) := by
  obtain rfl : t = t0 := Fin.ext ht
  unfold bodyPre bodyPost bodyAt0
  simp only [before0_0, before0_1, before0_2, before0_3, before0_4]
  rw [show (dats m 0 c).owesAt () t0.succ = (dats m 0 c).owesAt () t0.castSucc from rfl]
  rw [show (dats m 0 c).Φ t0.succ = PhiS m c (t0.val + 1) t0.isLt from rfl, PhiS_succ]
  rw [show (dats m 0 c).leavesExact 0 t0 = owns (c : Thread nD τ) (ms0_0 t0) fullShare ((dats m 0 c).after 0 t0) from by
      unfold Dat.leavesExact; rw [liveAt0_0 t0], after0_0]
  rw [show (dats m 0 c).leavesExact 1 t0 = owns (c : Thread nD τ) (ms0_1 t0) fullShare ((dats m 0 c).after 1 t0) from by
      unfold Dat.leavesExact; rw [liveAt0_1 t0], after0_1]
  rw [show (dats m 0 c).leavesExact 2 t0 = owns (c : Thread nD τ) (ms0_2 t0) fullShare ((dats m 0 c).after 2 t0) from by
      unfold Dat.leavesExact; rw [liveAt0_2 t0], after0_2]
  rw [show (dats m 0 c).leavesExact 3 t0 = owns (c : Thread nD τ) (ms0_3 t0) fullShare ((dats m 0 c).after 3 t0) from by
      unfold Dat.leavesExact; rw [liveAt0_3 t0], after0_3]
  rw [show (dats m 0 c).leavesExact 4 t0 = owns (c : Thread nD τ) (ms0_4 t0) fullShare ((dats m 0 c).after 4 t0) from by
      unfold Dat.leavesExact; rw [liveAt0_4 t0], after0_4]
  rw [leaves5_early m c t0 (by decide)]
  rw [PhiS_castSucc m c t0, PhiS_zero m c _ _ rfl, PhiA0_eq]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, H5⟩
  unfold owns
  icases HS0 with ⟨%f7, %hf7, HS0⟩
  icases HS1 with ⟨%f8, %hf8, HS1⟩
  icases HS2 with ⟨%f9, %hf9, HS2⟩
  have hX := (Memref.isWhole_whole cc0_scratch0).eq_unread (XE_raw m c f7)
  have hr := (runA c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) condA (fun h => absurd ((hcond0_1 t0).mp h) (by decide)) (iblk m c 0 t0) (iblk m c 1 t0) (iblk m c 2 t0) (iblk m c 3 t0) (iblk m c 4 t0) f7 f8 f9).2 Set.univ
  rw [runA_eq] at hr
  rw [hX] at hr
  unfold owns at hr
  iapply (hr _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexists _; isplitr
        swap; · iexact HS0
        ipureintro; exact (Memref.isWhole_whole cc0_scratch0).read_unread _
      isplitl [HS1]
      · iexact HS1
      iexists _; isplitr
      swap
      · iexists _; isplitr
        swap; · iexact HS2
        ipureintro; rfl
      ipureintro
      exact fun y hy => Z_step m c t0 _ _ (fun y hy => absurd hy (Nat.not_lt_zero _)) y hy
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 400000 in
theorem sound_B (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [leaves5_early m c t h1]
  rw [PhiS_castSucc m c t, PhiS_pos m c _ _ (fun h => h0 (by rw [h]))]
  iintro ⟨⟨⟨HS0, ⟨%e1, HS1⟩, ⟨%e2, %he2, HS2⟩⟩, Hg⟩, Ho, ⟨%d0, H0⟩, ⟨%d1, H1⟩, ⟨%d2, H2⟩, ⟨%d3, H3⟩, ⟨%d4, H4⟩, H5⟩
  unfold owns
  icases HS1 with ⟨%f8, %hf8, HS1⟩
  icases HS2 with ⟨%f9, %hf9, HS2⟩
  have hr := (runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (XE m c) f8 f9).2 Set.univ
  rw [runB_eq] at hr
  unfold owns at hr
  iapply (hr _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexact HS0
      isplitl [HS1]
      · iexact HS1
      iexists _; isplitr
      swap
      · iexists _; isplitr
        swap; · iexact HS2
        ipureintro; rfl
      ipureintro
      exact fun y hy => Z_step m c t _ _ (fun y hy => (congrFun hf9 y).trans (he2 y hy)) y hy
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 400000 in
theorem sound_C (c : Dev nD) (t : Fin cfg0.N) (h0 : ¬t.val % 11 = 0) (h1 : t.val % 11 = 10) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [leaves5_last m c t h1]
  rw [PhiS_castSucc m c t, PhiS_pos m c _ _ (fun h => h0 (by rw [h]))]
  iintro ⟨⟨⟨HS0, ⟨%e1, HS1⟩, ⟨%e2, %he2, HS2⟩⟩, Hg⟩, Ho, ⟨%d0, H0⟩, ⟨%d1, H1⟩, ⟨%d2, H2⟩, ⟨%d3, H3⟩, ⟨%d4, H4⟩, ⟨%d5, H5⟩⟩
  unfold owns
  icases HS1 with ⟨%f8, %hf8, HS1⟩
  icases HS2 with ⟨%f9, %hf9, HS2⟩
  icases H5 with ⟨%f6, %hf6, H5⟩
  have hZ := Z_step m c t scM0_2.view f9 (fun y hy => (congrFun hf9 y).trans (he2 y hy))
  have hr := (runC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (XE m c) f8 f9 f6).2 Set.univ
  rw [runC_eq, runC_out_of (V := Zval m c) (hV := fun y => hZ y (by
      have h : (y 0).val < 22 := (y 0).isLt
      omega))] at hr
  unfold owns at hr
  iapply (hr _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexists _; isplitr
      swap
      · iexists _; isplitr
        swap; · iexact HS2
        ipureintro; rfl
      ipureintro
      exact fun y hy => hZ y hy
    iexact Hg
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro; exact read_outPieces _ _ _

theorem sound_body (c : Dev nD) (t : Fin cfg0.N) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  by_cases h0 : t.val % 11 = 0
  · exact sound_A m c t (by omega)
  · by_cases h1 : t.val % 11 = 10
    · exact sound_C m c t h0 h1
    · exact sound_B m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by rw [show cfg0.N = 11 from N_0]; omega), PhiA0_eq]
  iintro ⟨⟨HS0, HS1, ⟨%e2, -, HS2⟩⟩, Hg⟩
  isplitl [HS0 HS1 HS2]
  · isplitl [HS0]
    · iexists _; iexact HS0
    isplitl [HS1]
    · iexact HS1
    iexists _; iexact HS2
  iexact Hg

/-! ## The run and the frame -/

set_option backward.isDefEq.respectTransparency.types false in
set_option maxHeartbeats 800000 in
/-- Every weakly fair execution terminates; the arrays end at the proof data's final contents, every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand
-- ==== Proof.KernelRuns.lean ====
/- The printed program around its one region, and what the three cases of its kernel body (the first point, a middle point, the last point) share. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v4}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 3 rfl).trans ((hA c 3).trans (V_main_arg1 m c)),
      (Pipeline.RDat.FramePostR.arr_in h c 4 rfl).trans ((hA c 4).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_1, k0_cond2, e0]
    word_cmp
   : ∀ t : Fin grid0.N, cond0_1 (grid0.coords t) ↔ t.val % 11 = 10)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S22x2x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x11264 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S32x32x1024 .bf16 := Memref.whole cc0_scratch0
abbrev scM0_1 : Memref sig .tc .vmem S2x64x8x128 .i32 := Memref.whole cc0_scratch1
abbrev scM0_2 : Memref sig .tc .vmem S22x8x512 .bf16 := Memref.whole cc0_scratch2
/-- The scratch `arg7` the kernel carries between points, as a view: what it holds is stated through it. -/
abbrev VS0_0 : View sig .tc .vmem S32x32x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KernelRunA.lean ====
/- The printed kernel body at the first point. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2572000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_A (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x128 .i32) (harg8 : arg8.IsWhole) (arg9 : Memref sig .tc .vmem S22x8x512 .bf16) (harg9 : arg9.IsWhole) (hc0 : cond0_0 i) (hc1 : ¬cond0_1 i)
    (x0 : Vec F S1 .f32) (x1 : Vec F S8x8192 .bf16) (x2 : Vec F S22x2x128 .f32) (x3 : Vec F S1024x4096 .i8) (x4 : Vec F S1024x128 .i8) :
    { LS0 : List (View.Piece (Elt F) S32x32x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ f, arg7.view.loc (c : Thread nD τ) ↦[arg7.view.set]{fullShare} arg7.view.writes (Elt F) f LS0) ∗ (∃ d, owns (c : Thread nD τ) arg8 fullShare d) ∗ (∃ d, owns (c : Thread nD τ) arg9 fullShare d)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨?_, fun E K => ?run⟩
  case run =>
    simp only [cc0_nf4_linear_eq_skeleton]; unfold cc0_nf4_linear_skel
    simp only [k0_part58_eq_skeleton, k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]; · iexists _; iexact HS0
    isplitl [HS1]
    · iexists _, _; isplitr; swap; · iexact HS1
      ipureintro; rfl
    iexists _, _; isplitr; swap; · iexact HS2
    ipureintro; rfl

end Cert.Kernel.Hand

end
-- ==== Proof.KernelRunB.lean ====
/- The printed kernel body at a middle point. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 9: 9 of 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_B (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x128 .i32) (harg8 : arg8.IsWhole) (arg9 : Memref sig .tc .vmem S22x8x512 .bf16) (harg9 : arg9.IsWhole) (hc0 : ¬cond0_0 i) (hc1 : ¬cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) :
    { LS0 : List (View.Piece (Elt F) S32x32x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ (∃ d, owns (c : Thread nD τ) arg9 fullShare d)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨[], fun E K => ?run⟩
  case run =>
    simp only [cc0_nf4_linear_eq_skeleton]; unfold cc0_nf4_linear_skel
    simp only [k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _; isplitr; · ipureintro; exact harg7.read_unread _
      iexact HS0
    isplitl [HS1]
    · iexists _, _; isplitr; swap; · iexact HS1
      ipureintro; rfl
    iexists _, _; isplitr; swap; · iexact HS2
    ipureintro; rfl

end Cert.Kernel.Hand

end
-- ==== Proof.KernelRunC.lean ====
/- The printed kernel body at the last point. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 10), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_C (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x128 .i32) (harg8 : arg8.IsWhole) (arg9 : Memref sig .tc .vmem S22x8x512 .bf16) (harg9 : arg9.IsWhole) (hc0 : ¬cond0_0 i) (hc1 : cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) :
    { LS0 : List (View.Piece (Elt F) S32x32x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ (∃ d, owns (c : Thread nD τ) arg9 fullShare d)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9) K } := by
  refine ⟨[], fun E K => ?run⟩
  case run =>
    simp only [cc0_nf4_linear_eq_skeleton]; unfold cc0_nf4_linear_skel
    simp only [k0_part58_eq_skeleton, k0_part59_eq_skeleton, k0_part60_eq_skeleton, k0_part61_eq_skeleton, k0_part62_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _; isplitr; · ipureintro; exact harg7.read_unread _
      iexact HS0
    isplitl [HS1]
    · iexists _, _; isplitr; swap; · iexact HS1
      ipureintro; rfl
    iexists _, _; isplitr; swap; · iexact HS2
    ipureintro; rfl

end Cert.Kernel.Hand

end
-- ==== Proof.KernelFrame.lean ====
/- The frame of the printed program: it terminates, its arguments end unchanged and every counter ends at zero. -/
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg7`, which the kernel carries between points, cover it: 128 pieces of `S1x8x1024` tiling it (Lib/Ring.lean `Piece.tiledL`). -/
theorem scover0_A_0 (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x128 .i32) (harg8 : arg8.IsWhole) (arg9 : Memref sig .tc .vmem S22x8x512 .bf16) (harg9 : arg9.IsWhole) (hc0 : cond0_0 i) (hc1 : ¬cond0_1 i)
    (x0 : Vec F S1 .f32) (x1 : Vec F S8x8192 .bf16) (x2 : Vec F S22x2x128 .f32) (x3 : Vec F S1024x4096 .i8) (x4 : Vec F S1024x128 .i8) (y : S32x32x1024.Idx) :
    ∃ pc ∈ (kernelRun0_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).1 S1x8x1024.size (by sl_kernel_rfl) y

/-- What case A leaves in scratch `arg7`: its pieces read back over junk. -/
def sout0_A_0 (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x128 .i32) (harg8 : arg8.IsWhole) (arg9 : Memref sig .tc .vmem S22x8x512 .bf16) (harg9 : arg9.IsWhole) (hc0 : cond0_0 i) (hc1 : ¬cond0_1 i)
    (x0 : Vec F S1 .f32) (x1 : Vec F S8x8192 .bf16) (x2 : Vec F S22x2x128 .f32) (x3 : Vec F S1024x4096 .i8) (x4 : Vec F S1024x128 .i8) : Vec F S32x32x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).1)

/-- Case B stores nothing into scratch `arg7`: it holds what the point before left. -/
def sout0_B_0 (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x128 .i32) (harg8 : arg8.IsWhole) (arg9 : Memref sig .tc .vmem S22x8x512 .bf16) (harg9 : arg9.IsWhole) (hc0 : ¬cond0_0 i) (hc1 : ¬cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) : Vec F S32x32x1024 .bf16 := xs0

/-- Case C stores nothing into scratch `arg7`: it holds what the point before left. -/
def sout0_C_0 (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x128 .i32) (harg8 : arg8.IsWhole) (arg9 : Memref sig .tc .vmem S22x8x512 .bf16) (harg9 : arg9.IsWhole) (hc0 : ¬cond0_0 i) (hc1 : cond0_1 i)
    (x0 : Vec F S1 .f32) (x1 : Vec F S8x8192 .bf16) (x2 : Vec F S22x2x128 .f32) (x3 : Vec F S1024x4096 .i8) (x4 : Vec F S1024x128 .i8) (xs0 : Vec F S32x32x1024 .bf16) : Vec F S32x32x1024 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S32x32x1024 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 11 = 0 then
      if h1 : (n + 1) % 11 = 10 then
        False.elim (by have hN : n + 1 < 11 := lt_of_lt_of_eq hn (show cfg0.N = 11 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      if h1 : (n + 1) % 11 = 10 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 11 = 0) (h1 : ¬t.val % 11 = 10) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 11 = 0) (h1 : ¬t.val % 11 = 10) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 11 = 0) (h1 : t.val % 11 = 10) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 11 := lt_of_lt_of_eq t.isLt (show cfg0.N = 11 from N_0)
  by_cases h0 : t.val % 11 = 0
  · by_cases h1 : t.val % 11 = 10
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · rw [PhiS_castSucc m c t, PhiS_zero m c _ _ hz, PhiA0_eq]
        rw [outsAt0_A m c t h0 h1]
        unfold sout0_A_0
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, ⟨%es0, HS0⟩, HS1, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5
      · exfalso; have hN : t.val < 11 := lt_of_lt_of_eq t.isLt (show cfg0.N = 11 from N_0); omega
  · by_cases h1 : t.val % 11 = 10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 11 := lt_of_lt_of_eq t.isLt (show cfg0.N = 11 from N_0); omega
      · rw [PhiS_castSucc m c t, PhiS_pos m c _ _ hz]
        rw [outsAt0_C m c t h0 h1]
        unfold sout0_C_0
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 11 := lt_of_lt_of_eq t.isLt (show cfg0.N = 11 from N_0); omega
      · rw [PhiS_castSucc m c t, PhiS_pos m c _ _ hz]
        rw [outsAt0_B m c t h0 h1]
        unfold sout0_B_0
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 11 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame of the printed program, at any float values: it terminates, the argument arrays end unchanged and every
    counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Trip.lean ====
module

public import proofs.«01_k».proof.Proof.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## One trip of the chunk loop, in readable pieces

Each trip treats two chunks of 128 packed columns. A chunk's weights are looked up by a tree of
selections on the four bits of every nibble, multiplied by the row's block scale and laid out as a
1024 × 256 matrix, which the chunk of expanded activations then multiplies. -/

/-- For each nibble of each word, whether the masked bit of it is set. -/
def bitV (msk : BitVec 32) (w : IVec S64x128 32) : IVec S512x128 1 :=
  cmpf .ogt (sitofp (F := F) .bf16 (shapeCast S512x128 (andi (shrui (broadcastTo S64x8x128 (shapeCast S64x1x128 (shapeCast S64x1x128 (andi w (broadcast S64x128 msk)) shapeCasts_S64x128_S64x1x128) shapeCasts_S64x1x128_S64x1x128) broadcasts_S64x1x128_S64x8x128)
    (muli (broadcast S64x8x128 4#32) (iota .tc S64x8x128 32 [1] iota_S64x8x128_d1_w32))) (broadcast S64x8x128 15#32)) shapeCasts_S64x8x128_S512x128)) (broadcast S512x128 (Scalar.ofBits .bf16 0x0000#16))

/-- A constant table entry at every place. -/
abbrev entV (b : BitVec 16) : FVec F S512x128 .bf16 := broadcast S512x128 (Scalar.ofBits .bf16 b)

/-- The table's value at every nibble of the words: nibble `e` of word row `k` in row `8 k + e`. -/
def lookV (w : IVec S64x128 32) : FVec F S512x128 .bf16 :=
  (select (bitV (F := F) 2290649224#32 w) (select (bitV (F := F) 1145324612#32 w) (select (bitV (F := F) 572662306#32 w) (select (bitV (F := F) 286331153#32 w) (entV 0x3F80#16) (entV 0x3F39#16)) (select (bitV (F := F) 286331153#32 w) (entV 0x3F10#16) (entV 0x3EE2#16))) (select (bitV (F := F) 572662306#32 w) (select (bitV (F := F) 286331153#32 w) (entV 0x3EAD#16) (entV 0x3E7C#16)) (select (bitV (F := F) 286331153#32 w) (entV 0x3E25#16) (entV 0x3DA3#16)))) (select (bitV (F := F) 1145324612#32 w) (select (bitV (F := F) 572662306#32 w) (select (bitV (F := F) 286331153#32 w) (entV 0x0000#16) (entV 0xBDBA#16)) (select (bitV (F := F) 286331153#32 w) (entV 0xBE3D#16) (entV 0xBE92#16))) (select (bitV (F := F) 572662306#32 w) (select (bitV (F := F) 286331153#32 w) (entV 0xBECA#16) (entV 0xBF06#16)) (select (bitV (F := F) 286331153#32 w) (entV 0xBF32#16) (entV 0xBF80#16)))))

/-- One block's scales of a group of 512 rows, by nibble place: sixteen rows, the two halves of the
columns alternating. -/
def amV (r : Vec F S1x1x8x2x128 .bf16) : FVec F S16x128 .bf16 :=
  interleaveRows S16x128
    (shapeCast S8x128 (shapeCast S1x1x8x128 (rowsOfParity 0 S1x1x8x1x128 r bitcasts_S1x1x8x2x128_w16_S1x1x8x1x128_w32) shapeCasts_S1x1x8x1x128_S1x1x8x128) shapeCasts_S1x1x8x128_S8x128)
    (shapeCast S8x128 (shapeCast S1x1x8x128 (rowsOfParity 1 S1x1x8x1x128 r bitcasts_S1x1x8x2x128_w16_S1x1x8x1x128_w32) shapeCasts_S1x1x8x1x128_S1x1x8x128) shapeCasts_S1x1x8x128_S8x128)
    bitcasts_S16x128_w16_S8x128_w32

/-- The weights of 64 packed columns of a group. -/
def partV (w : IVec S64x128 32) (r : Vec F S1x1x8x2x128 .bf16) : FVec F S512x128 .bf16 :=
  shapeCast S512x128 (mulf (shapeCast S32x16x128 (lookV w) shapeCasts_S512x128_S32x16x128)
    (broadcastTo S32x16x128 (shapeCast S1x16x128 (amV r) shapeCasts_S16x128_S1x16x128) broadcasts_S1x16x128_S32x16x128)) shapeCasts_S32x16x128_S512x128

/-- The packed words of a chunk: four weight rows to a word. -/
def wordsV (W : Vec F S1024x128 .i8) : IVec S256x128 32 := bitcast S256x128 32 W bitcasts_S1024x128_w8_S256x128_w32

/-- The weights of a group of 512 rows at the chunk's 128 packed columns, from the words turned over. -/
def groupV (T : IVec S128x128 32) (r0 r1 : Vec F S1x1x8x2x128 .bf16) : FVec F S1024x128 .bf16 :=
  concatenate S1024x128 0 [⟨S512x128, partV (extractStridedSlice S64x128 ![0, 0] T slices_S128x128_o0_0_S64x128) r0⟩,
    ⟨S512x128, partV (extractStridedSlice S64x128 ![64, 0] T slices_S128x128_o64_0_S64x128) r1⟩] concatenates_S512x128_S512x128_S1024x128_d0

/-- The words of group 0, turned over; and of group 1. -/
def turn0 (w : IVec S256x128 32) : IVec S128x128 32 :=
  transpose S128x128 [1, 0] (extractStridedSlice S128x128 ![0, 0] w slices_S256x128_o0_0_S128x128) transposes_S128x128_p1_0_S128x128
def turn1 (w : IVec S256x128 32) : IVec S128x128 32 :=
  transpose S128x128 [1, 0] (extractStridedSlice S128x128 ![128, 0] w slices_S256x128_o128_0_S128x128) transposes_S128x128_p1_0_S128x128

/-- The weights of a chunk: the two groups side by side. -/
def weightsV (W : Vec F S1024x128 .i8) (a0 a1 b0 b1 : Vec F S1x1x8x2x128 .bf16) : FVec F S1024x256 .bf16 :=
  concatenate S1024x256 1 [⟨S1024x128, groupV (turn0 (wordsV W)) a0 a1⟩, ⟨S1024x128, groupV (turn1 (wordsV W)) b0 b1⟩] concatenates_S1024x128_S1024x128_S1024x256_d1

/-- One chunk's step of the accumulator. -/
def chunkV (acc : FVec F S32x256 .f32) (W : Vec F S1024x128 .i8) (a0 a1 b0 b1 : Vec F S1x1x8x2x128 .bf16) (X : Vec F S1x32x1024 .bf16) : FVec F S32x256 .f32 :=
  addf acc (matmul dot_S32x1024_S1024x256_S32x256_1_0_0_1_n_n none (shapeCast S32x1024 X shapeCasts_S1x32x1024_S32x1024) (weightsV W a0 a1 b0 b1) (constant S32x256 .f32 0x00000000#32))

/-- What a chunk's step reads: the packed weights, the block scales of a group, the expanded activations. -/
abbrev rdW (arg4 : Memref sig .tc .vmem S1024x4096 .i8) (X4 : BufTy.Contents (Elt F) arg4.view.ty) (k : Fin k0_t1_loop.trips) (u : Fin 2) : Vec F S1024x128 .i8 :=
  View.readAt (Elt F) arg4.view (Rect.unit (s := S1024x4096) (k0_off2 k (BitVec.ofNat 32 u.val)) S1024x128.size (k0_off2_inb k u)).toLoadRect X4
abbrev rdA (arg8 : Memref sig .tc .vmem S2x64x8x2x128 .bf16) (X8 : BufTy.Contents (Elt F) arg8.view.ty) (k : Fin k0_t1_loop.trips) (u : Fin 2) (t : Fin 2) : Vec F S1x1x8x2x128 .bf16 :=
  View.readAt (Elt F) arg8.view (Rect.unit (s := S2x64x8x2x128) (k0_off3 k (BitVec.ofNat 32 u.val) (BitVec.ofNat 32 t.val)) S1x1x8x2x128.size (k0_off3_inb k u t)).toLoadRect X8
abbrev rdB (arg8 : Memref sig .tc .vmem S2x64x8x2x128 .bf16) (X8 : BufTy.Contents (Elt F) arg8.view.ty) (k : Fin k0_t1_loop.trips) (u : Fin 2) (t : Fin 2) : Vec F S1x1x8x2x128 .bf16 :=
  View.readAt (Elt F) arg8.view (Rect.unit (s := S2x64x8x2x128) (k0_off4 k (BitVec.ofNat 32 u.val) (BitVec.ofNat 32 t.val)) S1x1x8x2x128.size (k0_off4_inb k u t)).toLoadRect X8
abbrev rdX (arg7 : Memref sig .tc .vmem S32x32x1024 .bf16) (X7 : BufTy.Contents (Elt F) arg7.view.ty) (k : Fin k0_t1_loop.trips) (u : Fin 2) : Vec F S1x32x1024 .bf16 :=
  View.readAt (Elt F) arg7.view (Rect.unit (s := S32x32x1024) (k0_off5 k (BitVec.ofNat 32 u.val)) S1x32x1024.size (k0_off5_inb k u)).toLoadRect X7

/-- A chunk's step on what it reads. -/
def stepV (arg4 : Memref sig .tc .vmem S1024x4096 .i8) (arg7 : Memref sig .tc .vmem S32x32x1024 .bf16) (arg8 : Memref sig .tc .vmem S2x64x8x2x128 .bf16)
    (X4 : BufTy.Contents (Elt F) arg4.view.ty) (X7 : BufTy.Contents (Elt F) arg7.view.ty) (X8 : BufTy.Contents (Elt F) arg8.view.ty) (k : Fin k0_t1_loop.trips) (u : Fin 2) (acc : FVec F S32x256 .f32) : FVec F S32x256 .f32 :=
  chunkV acc (rdW arg4 X4 k u) (rdA arg8 X8 k u 0) (rdA arg8 X8 k u 1) (rdB arg8 X8 k u 0) (rdB arg8 X8 k u 1) (rdX arg7 X7 k u)

set_option maxHeartbeats 400000 in
theorem trip_first (arg4 : Memref sig .tc .vmem S1024x4096 .i8) (arg7 : Memref sig .tc .vmem S32x32x1024 .bf16) (arg8 : Memref sig .tc .vmem S2x64x8x2x128 .bf16)
    (X4 : BufTy.Contents (Elt F) arg4.view.ty) (X7 : BufTy.Contents (Elt F) arg7.view.ty) (X8 : BufTy.Contents (Elt F) arg8.view.ty) (k : Fin k0_t1_loop.trips) (acc : FVec F S32x256 .f32) :
    trip_k0_t1.sl.r_32 arg4 arg7 arg8 X4 X7 X8 k acc = stepV arg4 arg7 arg8 X4 X7 X8 k 0 acc := rfl

set_option maxHeartbeats 400000 in
/-- One trip is its two chunks in turn. -/
theorem trip_eq (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole)
    (a0 : BitVec 32) (v3 : Elt F .f32) (v9 : IVec S256x128 32) (v128 : FVec F S1x128 .f32) (v130 : IVec S8x128 1) (v132 : FVec F S8x128 .f32)
    (X4 : BufTy.Contents (Elt F) arg4.view.ty) (X7 : BufTy.Contents (Elt F) arg7.view.ty) (X8 : BufTy.Contents (Elt F) arg8.view.ty) (k : Fin k0_t1_loop.trips) (acc : FVec F S32x256 .f32) :
    tripR_k0_t1 Variants.none c none i arg1 harg1 arg2 harg2 arg3 harg3 arg4 harg4 arg5 harg5 arg6 harg6 arg7 harg7 arg8 harg8 arg9 harg9 a0 v3 v9 v128 v130 v132 X4 X7 X8 k acc
      = stepV arg4 arg7 arg8 X4 X7 X8 k 1 (stepV arg4 arg7 arg8 X4 X7 X8 k 0 acc) := by
  unfold tripR_k0_t1 trip_k0_t1
  dsimp only
  rw [trip_first]
  rfl
end Cert.KernelIdeal.Hand
-- ==== Proof.Look.lean ====
module

public import proofs.«01_k».proof.Proof.Trip
public import Idealize.ShloMosaic.Lib.Pointwise
public import Idealize.ShloMosaic.Lib.BitcastFour

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The table look-up, read at an index -/

/-- The table: the value of a four-bit code, its bits from low to high. -/
def nf4 (b0 b1 b2 b3 : Bool) : EReal :=
  (if b3 then (if b2 then (if b1 then (if b0 then Ideal.ofBits .bf16 0x3F80#16 else Ideal.ofBits .bf16 0x3F39#16) else (if b0 then Ideal.ofBits .bf16 0x3F10#16 else Ideal.ofBits .bf16 0x3EE2#16)) else (if b1 then (if b0 then Ideal.ofBits .bf16 0x3EAD#16 else Ideal.ofBits .bf16 0x3E7C#16) else (if b0 then Ideal.ofBits .bf16 0x3E25#16 else Ideal.ofBits .bf16 0x3DA3#16))) else (if b2 then (if b1 then (if b0 then Ideal.ofBits .bf16 0x0000#16 else Ideal.ofBits .bf16 0xBDBA#16) else (if b0 then Ideal.ofBits .bf16 0xBE3D#16 else Ideal.ofBits .bf16 0xBE92#16)) else (if b1 then (if b0 then Ideal.ofBits .bf16 0xBECA#16 else Ideal.ofBits .bf16 0xBF06#16) else (if b0 then Ideal.ofBits .bf16 0xBF32#16 else Ideal.ofBits .bf16 0xBF80#16))))

/-- The value of one half of a packed byte: half 0 is the low four bits. -/
def nf4b (B : BitVec 8) (h : ℕ) : EReal :=
  nf4 (B.getLsbD (4 * h)) (B.getLsbD (4 * h + 1)) (B.getLsbD (4 * h + 2)) (B.getLsbD (4 * h + 3))

/-- The mask that keeps bit `j` of every nibble. -/
def maskOf (j : Fin 4) : BitVec 32 := 286331153#32 <<< j.val

theorem maskOf_bit : ∀ (j : Fin 4) (e : Fin 8) (i : Fin 4), (maskOf j).getLsbD (4 * e.val + i.val) = decide (i = j) := by decide

theorem fifteen_bit : ∀ i : Fin 32, (15#32 : BitVec 32).getLsbD i.val = decide (i.val < 4) := by decide

theorem power_bit : ∀ (j : Fin 4) (i : Fin 32), (1#32 <<< j.val).getLsbD i.val = decide (i.val = j.val) := by decide

theorem shift_amount : ∀ e : Fin 8, IntOp.muli (4#32) (BitVec.ofNat 32 e.val) = BitVec.ofNat 32 (4 * e.val) := by decide

theorem shift_lt : ∀ e : Fin 8, (BitVec.ofNat 32 (4 * e.val)).toNat = 4 * e.val := by decide

/-- Bit `j` of nibble `e`, masked out and shifted to the bottom. -/
theorem nibble_bit (W : BitVec 32) (e : Fin 8) (j : Fin 4) :
    IntOp.andi (IntOp.shrui ArithUnit.vector (IntOp.andi W (maskOf j)) (IntOp.muli (4#32) (BitVec.ofNat 32 e.val))) 15#32
      = if W.getLsbD (4 * e.val + j.val) then 1#32 <<< j.val else 0#32 := by
  rw [shift_amount]
  unfold IntOp.shrui IntOp.andi
  rw [if_pos (by rw [shift_lt]; omega)]
  apply BitVec.eq_of_getLsbD_eq
  intro i hi
  have h15 := fifteen_bit ⟨i, hi⟩
  dsimp only at h15
  rw [BitVec.getLsbD_and, h15]
  have hp := power_bit j ⟨i, hi⟩
  dsimp only at hp
  rw [BitVec.ushiftRight_eq', shift_lt, BitVec.getLsbD_ushiftRight, BitVec.getLsbD_and]
  by_cases h4 : i < 4
  · have hm := maskOf_bit j e ⟨i, h4⟩
    dsimp only at hm
    rw [hm]
    by_cases hj : i = j.val
    · subst hj
      cases hW : W.getLsbD (4 * e.val + j.val)
      · simp
      · simp [hp]
    · have : ¬ (⟨i, h4⟩ : Fin 4) = j := fun h => hj (congrArg Fin.val h)
      cases hW : W.getLsbD (4 * e.val + j.val) <;> simp [this, hp, hj]
  · have hj : ¬ i = j.val := by omega
    cases hW : W.getLsbD (4 * e.val + j.val) <;> simp [h4, hp, hj]

theorem power_pos : ∀ j : Fin 4, 0 < (1#32 <<< j.val : BitVec 32).toInt := by decide

/-- Whether a bit is set, as the kernel asks it. -/
theorem bit_test (b : Bool) (j : Fin 4) :
    decide ((0 : EReal) < FloatOps.sitofp (F := Ideal) FTy.bf16 (if b then 1#32 <<< j.val else 0#32 : BitVec 32)) = b := by
  cases b
  · simp only [Bool.false_eq_true, if_false]
    rw [decide_eq_false]
    show ¬ (0 : EReal) < (((0#32 : BitVec 32).toInt : ℝ) : EReal)
    simp
  · simp only [if_true]
    rw [decide_eq_true]
    show (0 : EReal) < (((1#32 <<< j.val : BitVec 32).toInt : ℝ) : EReal)
    have := power_pos j
    exact_mod_cast this

theorem bitV_at (j : Fin 4) (w : IVec S64x128 32) (r : Fin 512) (l : Fin 128) :
    bitV (F := Ideal) (maskOf j) w (ix2 r l) = BitVec.ofBool ((w (ix2 ⟨r.val / 8, by omega⟩ l)).getLsbD (4 * (r.val % 8) + j.val)) := by
  pointwise [bitV]
  have := nibble_bit (w (ix2 ⟨r.val / 8, by omega⟩ l)) ⟨r.val % 8, by omega⟩ j
  dsimp only at this
  rw [this, bit_test]

/-- The table at nibble `r % 8` of word `r / 8`. -/
theorem lookV_at (w : IVec S64x128 32) (r : Fin 512) (l : Fin 128) (W : BitVec 32) (hW : w (ix2 ⟨r.val / 8, by omega⟩ l) = W) :
    lookV (F := Ideal) w (ix2 r l) = nf4 (W.getLsbD (4 * (r.val % 8))) (W.getLsbD (4 * (r.val % 8) + 1)) (W.getLsbD (4 * (r.val % 8) + 2)) (W.getLsbD (4 * (r.val % 8) + 3)) := by
  have h0 := bitV_at 0 w r l
  have h1 := bitV_at 1 w r l
  have h2 := bitV_at 2 w r l
  have h3 := bitV_at 3 w r l
  rw [hW] at h0 h1 h2 h3
  change bitV (F := Ideal) 286331153#32 w _ = _ at h0
  change bitV (F := Ideal) 572662306#32 w _ = _ at h1
  change bitV (F := Ideal) 1145324612#32 w _ = _ at h2
  change bitV (F := Ideal) 2290649224#32 w _ = _ at h3
  have sel : ∀ (b : Bool) (x y : EReal), Scalar.select (BitVec.ofBool b) x y = if b then x else y := by intro b x y; cases b <;> rfl
  unfold lookV
  simp only [select, h0, h1, h2, h3]
  show _ = nf4 _ _ _ _
  unfold nf4
  cases W.getLsbD (4 * (r.val % 8)) <;> cases W.getLsbD (4 * (r.val % 8) + 1) <;> cases W.getLsbD (4 * (r.val % 8) + 2) <;> cases W.getLsbD (4 * (r.val % 8) + 3) <;> rfl

theorem amV_at (r : Vec Ideal S1x1x8x2x128 .bf16) (p : Fin 16) (l : Fin 128) :
    amV (F := Ideal) r (ix2 p l) = r (ix5 0 0 ⟨p.val / 2, by omega⟩ ⟨p.val % 2, by omega⟩ l) := by
  pointwise [amV]
  by_cases h : p.val % 2 = 0
  · rw [if_pos h]
    exact congrArg (fun z : Fin 2 => r (ix5 0 0 ⟨p.val / 2, by omega⟩ z l)) (Fin.ext h.symm)
  · rw [if_neg h]
    exact congrArg (fun z : Fin 2 => r (ix5 0 0 ⟨p.val / 2, by omega⟩ z l)) (Fin.ext (by show 1 = p.val % 2; omega))

theorem partV_at (w : IVec S64x128 32) (r : Vec Ideal S1x1x8x2x128 .bf16) (p : Fin 512) (l : Fin 128) :
    partV (F := Ideal) w r (ix2 p l) = lookV (F := Ideal) w (ix2 p l) * r (ix5 0 0 ⟨p.val % 16 / 2, by omega⟩ ⟨p.val % 16 % 2, by omega⟩ l) := by
  refine Eq.trans ?_ (congrArg _ (amV_at r ⟨p.val % 16, by omega⟩ l))
  pointwise [partV]

theorem wordsV_bit (W : Vec Ideal S1024x128 .i8) (a : Fin 256) (k : Fin 128) (q : ℕ) (hq : q < 32) :
    (wordsV (F := Ideal) W (ix2 a k)).getLsbD q = (W (ix2 (⟨4 * a.val + q / 8, by omega⟩ : Fin 1024) k) : BitVec 8).getLsbD (q % 8) :=
  bitcast_8_32_getLsbD_ix2 W _ a k q hq _ rfl

/-- A group's weights at 64 packed columns, read off the turned words. -/
theorem lookPart (W : Vec Ideal S1024x128 .i8) (w : IVec S64x128 32) (g : Fin 2) (t : Fin 2)
    (hw : ∀ (k : Fin 64) (l : Fin 128), w (ix2 k l) = wordsV (F := Ideal) W (ix2 ⟨128 * g.val + l.val, by omega⟩ ⟨64 * t.val + k.val, by omega⟩))
    (r : Fin 512) (l : Fin 128) :
    lookV (F := Ideal) w (ix2 r l) = nf4b (W (ix2 (⟨4 * (128 * g.val + l.val) + r.val % 8 / 2, by omega⟩ : Fin 1024) (⟨64 * t.val + r.val / 8, by omega⟩ : Fin 128))) (r.val % 2) := by
  rw [lookV_at w r l _ (hw ⟨r.val / 8, by omega⟩ l)]
  have bit : ∀ i : Fin 4, (wordsV (F := Ideal) W (ix2 ⟨128 * g.val + l.val, by omega⟩ ⟨64 * t.val + r.val / 8, by omega⟩)).getLsbD (4 * (r.val % 8) + i.val)
      = (W (ix2 (⟨4 * (128 * g.val + l.val) + r.val % 8 / 2, by omega⟩ : Fin 1024) (⟨64 * t.val + r.val / 8, by omega⟩ : Fin 128)) : BitVec 8).getLsbD (4 * (r.val % 2) + i.val) := fun i => by
    refine (bitcast_8_32_getLsbD_ix2 W _ _ _ _ (by omega) ⟨4 * (128 * g.val + l.val) + r.val % 8 / 2, by omega⟩ ?_).trans (congrArg _ ?_)
    · show _ = 4 * (128 * g.val + l.val) + _
      dsimp only
      omega
    · omega
  unfold nf4b
  exact congr (congr (congr (congrArg nf4 (bit 0)) (bit 1)) (bit 2)) (bit 3)

/-- A group's weights at the chunk's 128 packed columns. -/
theorem groupV_at (W : Vec Ideal S1024x128 .i8) (T : IVec S128x128 32) (g : Fin 2)
    (hT : ∀ k l : Fin 128, T (ix2 k l) = wordsV (F := Ideal) W (ix2 ⟨128 * g.val + l.val, by omega⟩ k))
    (A : Fin 2 → Vec Ideal S1x1x8x2x128 .bf16) (r : Fin 1024) (l : Fin 128) :
    groupV (F := Ideal) T (A 0) (A 1) (ix2 r l)
      = nf4b (W (ix2 (⟨4 * (128 * g.val + l.val) + r.val % 8 / 2, by omega⟩ : Fin 1024) (⟨r.val / 8, by omega⟩ : Fin 128))) (r.val % 2)
        * A ⟨r.val / 512, by omega⟩ (ix5 0 0 ⟨r.val % 16 / 2, by omega⟩ ⟨r.val % 2, by omega⟩ l) := by
  pointwise [groupV]
  by_cases h : r.val < 512
  · rw [dif_pos h]
    refine (partV_at _ _ ⟨r.val, h⟩ l).trans ?_
    rw [lookPart W _ g 0 (fun k l => by
      refine Eq.trans ?_ (hT ⟨64 * 0 + k.val, by omega⟩ l)
      pointwise [turn0]) ⟨r.val, h⟩ l]
    have e : (⟨r.val / 512, by omega⟩ : Fin 2) = 0 := Fin.ext (by simp; omega)
    rw [e]
    refine congrArg₂ (fun x y : EReal => x * y) ?_ ?_
    · congr 3
      exact Fin.ext (by simp)
    · congr 2
      exact Fin.ext (by show r.val % 16 % 2 = r.val % 2; omega)
  · rw [dif_neg h]
    refine (partV_at _ _ ⟨r.val - 512, by omega⟩ l).trans ?_
    rw [lookPart W _ g 1 (fun k l => by
      refine Eq.trans ?_ (hT ⟨64 * 1 + k.val, by omega⟩ l)
      pointwise [turn0]
      ) ⟨r.val - 512, by omega⟩ l]
    have e : (⟨r.val / 512, by omega⟩ : Fin 2) = 1 := Fin.ext (by show r.val / 512 = 1; omega)
    rw [e]
    refine congrArg₂ (fun x y : EReal => x * y) ?_ ?_
    · refine congrArg₂ nf4b (congrArg W ((ix2_inj ..).2 ⟨Fin.ext ?_, Fin.ext ?_⟩)) ?_
      · show 4 * (128 * g.val + l.val) + (r.val - 512) % 8 / 2 = 4 * (128 * g.val + l.val) + r.val % 8 / 2
        omega
      · show 64 * 1 + (r.val - 512) / 8 = r.val / 8
        omega
      · show (r.val - 512) % 2 = r.val % 2
        omega
    · refine congrArg (A 1) (congrArg₂ (fun (x : Fin 8) (y : Fin 2) => ix5 0 0 x y l) (Fin.ext ?_) (Fin.ext ?_))
      · show (r.val - 512) % 16 / 2 = r.val % 16 / 2
        omega
      · show (r.val - 512) % 16 % 2 = r.val % 2
        omega

theorem turn0_at (w : IVec S256x128 32) (k l : Fin 128) : turn0 w (ix2 k l) = w (ix2 ⟨128 * (0 : Fin 2).val + l.val, by simp; omega⟩ k) := by
  pointwise [turn0]

theorem turn1_at (w : IVec S256x128 32) (k l : Fin 128) : turn1 w (ix2 k l) = w (ix2 ⟨128 * (1 : Fin 2).val + l.val, by simp; omega⟩ k) := by
  pointwise [turn1]

/-- A chunk's weights: row `r` is nibble place `r % 8` of packed column `r / 8`, column `n` is word `n`. -/
theorem weightsV_at (W : Vec Ideal S1024x128 .i8) (A : Fin 2 → Fin 2 → Vec Ideal S1x1x8x2x128 .bf16) (r : Fin 1024) (n : Fin 256) :
    weightsV (F := Ideal) W (A 0 0) (A 0 1) (A 1 0) (A 1 1) (ix2 r n)
      = nf4b (W (ix2 (⟨4 * n.val + r.val % 8 / 2, by omega⟩ : Fin 1024) (⟨r.val / 8, by omega⟩ : Fin 128))) (r.val % 2)
        * A ⟨n.val / 128, by omega⟩ ⟨r.val / 512, by omega⟩ (ix5 0 0 ⟨r.val % 16 / 2, by omega⟩ ⟨r.val % 2, by omega⟩ ⟨n.val % 128, by omega⟩) := by
  pointwise [weightsV]
  by_cases h : n.val < 128
  · rw [dif_pos h]
    refine (groupV_at W _ 0 (turn0_at _) (A 0) r ⟨n.val, h⟩).trans ?_
    have e : (⟨n.val / 128, by omega⟩ : Fin 2) = 0 := Fin.ext (by show n.val / 128 = 0; omega)
    have e' : (⟨n.val % 128, by omega⟩ : Fin 128) = ⟨n.val, h⟩ := Fin.ext (by show n.val % 128 = n.val; omega)
    rw [e, e']
    refine congrArg₂ (fun x y : EReal => x * y) ?_ rfl
    refine congrArg₂ nf4b (congrArg W ((ix2_inj ..).2 ⟨Fin.ext ?_, rfl⟩)) rfl
    show 4 * (128 * 0 + n.val) + r.val % 8 / 2 = 4 * n.val + r.val % 8 / 2
    omega
  · rw [dif_neg h]
    refine (groupV_at W _ 1 (turn1_at _) (A 1) r ⟨n.val - 128, by omega⟩).trans ?_
    have e : (⟨n.val / 128, by omega⟩ : Fin 2) = 1 := Fin.ext (by show n.val / 128 = 1; omega)
    have e' : (⟨n.val % 128, by omega⟩ : Fin 128) = ⟨n.val - 128, by omega⟩ := Fin.ext (by show n.val % 128 = n.val - 128; omega)
    rw [e, e']
    refine congrArg₂ (fun x y : EReal => x * y) ?_ rfl
    refine congrArg₂ nf4b (congrArg W ((ix2_inj ..).2 ⟨Fin.ext ?_, rfl⟩)) rfl
    show 4 * (128 * 1 + (n.val - 128)) + r.val % 8 / 2 = 4 * n.val + r.val % 8 / 2
    omega

/-- A chunk's step: the accumulator and the product's entry. -/
theorem chunkV_at (acc : FVec Ideal S32x256 .f32) (W : Vec Ideal S1024x128 .i8) (A : Fin 2 → Fin 2 → Vec Ideal S1x1x8x2x128 .bf16) (X : Vec Ideal S1x32x1024 .bf16) (q : Fin 32) (n : Fin 256) :
    chunkV (F := Ideal) acc W (A 0 0) (A 0 1) (A 1 0) (A 1 1) X (ix2 q n)
      = acc (ix2 q n) + ∑ r : Fin 1024, X (ix3 0 q r) * (nf4b (W (ix2 (⟨4 * n.val + r.val % 8 / 2, by omega⟩ : Fin 1024) (⟨r.val / 8, by omega⟩ : Fin 128))) (r.val % 2)
        * A ⟨n.val / 128, by omega⟩ ⟨r.val / 512, by omega⟩ (ix5 0 0 ⟨r.val % 16 / 2, by omega⟩ ⟨r.val % 2, by omega⟩ ⟨n.val % 128, by omega⟩)) := by
  refine Eq.trans (b := acc (ix2 q n) + ∑ r : Fin 1024, X (ix3 0 q r) * weightsV (F := Ideal) W (A 0 0) (A 0 1) (A 1 0) (A 1 1) (ix2 r n)) ?_ ?_
  · pointwise [chunkV]
  · exact congrArg _ (Finset.sum_congr rfl fun r _ => congrArg _ (weightsV_at W A r n))
end Cert.KernelIdeal.Hand
-- ==== Proof.Am.lean ====
module

public import proofs.«01_k».proof.Proof.Look
public import proofs.«01_k».proof.Proof.Stores
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The block scales a grid point prepares -/

/-- The lane each lane's scale is taken from: the even lanes in turn, twice around, plus `o`. -/
def gatherIx (o : BitVec 32) : IVec S2x128 32 :=
  broadcastTo S2x128 (shapeCast S1x128 (addi (andi (muli lanesV (broadcast S1x128 2#32)) (broadcast S1x128 127#32)) (broadcast S1x128 o)) shapeCasts_S1x128_S1x128) broadcasts_S1x128_S2x128

/-- Negative lane numbers brought round (there are none). -/
def gatherIx' (o : BitVec 32) : IVec S2x128 32 :=
  select (cmpi .slt (gatherIx o) (broadcast S2x128 0#32)) (addi (gatherIx o) (broadcast S2x128 128#32)) (gatherIx o)

/-- The gathered scales, row by row. -/
def gathV (o : BitVec 32) (s : Vec F S1x2x128 .f32) : FVec F S2x128 .f32 :=
  dynamicGather 1 (shapeCast S2x128 s shapeCasts_S1x2x128_S2x128) (shapeCast S2x128 (shapeCast S2x128x1 (gatherIx' o) shapeCasts_S2x128_S2x128x1) shapeCasts_S2x128x1_S2x128)

/-- The scales of a group's words: the first row for the first half of the lanes, then the second. -/
def pickV (o : BitVec 32) (s : Vec F S1x2x128 .f32) : FVec F S1x128 .f32 :=
  select (cmpi .slt lanesV (broadcast S1x128 64#32)) (extractStridedSlice S1x128 ![0, 0] (gathV o s) slices_S2x128_o0_0_S1x128) (extractStridedSlice S1x128 ![1, 0] (gathV o s) slices_S2x128_o1_0_S1x128)

/-- The scales by row of a word (two rows to a scale) and word. -/
def scaleRows (s : Vec F S1x2x128 .f32) : FVec F S8x128 .f32 :=
  select (cmpi .slt k0_pay435 (broadcast S8x128 2#32)) (broadcastTo S8x128 (shapeCast S1x128 (pickV 0#32 s) shapeCasts_S1x128_S1x128) broadcasts_S1x128_S8x128)
    (broadcastTo S8x128 (shapeCast S1x128 (pickV 1#32 s) shapeCasts_S1x128_S1x128) broadcasts_S1x128_S8x128)

/-- Code times scale plus offset, by block and row of a word, from a group's turned words. -/
def amTurned (off : Elt F .f32) (T : IVec S128x128 32) (s : Vec F S1x2x128 .f32) : FVec F S512x128 .bf16 :=
  truncf .bf16 (shapeCast S512x128 (addf (mulf (shapeCast S64x8x128 (sitofp .f32 (bitcast S512x128 8 T bitcasts_S128x128_w32_S512x128_w8)) shapeCasts_S512x128_S64x8x128)
    (broadcastTo S64x8x128 (shapeCast S1x8x128 (scaleRows s) shapeCasts_S8x128_S1x8x128) broadcasts_S1x8x128_S64x8x128)) (broadcast S64x8x128 off)) shapeCasts_S64x8x128_S512x128) bitsLt_bf16_f32

/-- Half of the blocks, its four rows of a word written twice. -/
def twiceV (x : FVec F S256x128 .bf16) : FVec F S1x64x8x1x128 .bf16 :=
  shapeCast S1x64x8x1x128 (shapeCast S1x64x8x128 (concatenate S64x8x128 1 [⟨S64x4x128, shapeCast S64x4x128 x shapeCasts_S256x128_S64x4x128⟩, ⟨S64x4x128, shapeCast S64x4x128 x shapeCasts_S256x128_S64x4x128⟩] concatenates_S64x4x128_S64x4x128_S64x8x128_d1)
    shapeCasts_S64x8x128_S1x64x8x128) shapeCasts_S1x64x8x128_S1x64x8x1x128

/-- What one group's store of block scales writes. -/
def amStore (off : Elt F .f32) (T : IVec S128x128 32) (s : Vec F S1x2x128 .f32) : Vec F S1x64x8x2x128 .bf16 :=
  interleaveRows S1x64x8x2x128 (twiceV (extractStridedSlice S256x128 ![0, 0] (amTurned off T s) slices_S512x128_o0_0_S256x128))
    (twiceV (extractStridedSlice S256x128 ![256, 0] (amTurned off T s) slices_S512x128_o256_0_S256x128)) bitcasts_S1x64x8x2x128_w16_S1x64x8x1x128_w32

theorem amPieces_eq (off : Elt F .f32) (codes : IVec S256x128 32) (s0 s1 : Vec F S1x2x128 .f32) :
    amPieces off codes s0 s1 = [⟨Rect.unit ![1, 0, 0, 0, 0] S1x64x8x2x128.size inb_S2x64x8x2x128_S1x64x8x2x128_1_0_0_0_0, amStore off (turn1 codes) s1⟩,
      ⟨Rect.unit ![0, 0, 0, 0, 0] S1x64x8x2x128.size inb_S2x64x8x2x128_S1x64x8x2x128_0_0_0_0_0, amStore off (turn0 codes) s0⟩] := rfl

/-- The lane gathered from. -/
theorem gatherIx_val : ∀ (o : Fin 2) (l : Fin 128),
    (Scalar.select (IntOp.cmpi .slt (IntOp.addi (IntOp.andi (IntOp.muli (BitVec.ofNat 32 l.val) 2#32) 127#32) (BitVec.ofNat 32 o.val)) 0#32)
      (IntOp.addi (IntOp.addi (IntOp.andi (IntOp.muli (BitVec.ofNat 32 l.val) 2#32) 127#32) (BitVec.ofNat 32 o.val)) 128#32)
      (IntOp.addi (IntOp.andi (IntOp.muli (BitVec.ofNat 32 l.val) 2#32) 127#32) (BitVec.ofNat 32 o.val))).toNat % 128 = 2 * (l.val % 64) + o.val := by decide +kernel

theorem dynamicGather_at {α : Type} (x : S2x128.Idx → α) (ix : IVec S2x128 32) (r : Fin 2) (l : Fin 128) (v : Fin 128) (h : (ix (ix2 r l)).toNat % 128 = v.val) :
    dynamicGather (s := S2x128) 1 x ix (ix2 r l) = x (ix2 r v) := by
  unfold dynamicGather
  congr 1
  funext b
  match b with
  | ⟨0, _⟩ => rfl
  | ⟨1, _⟩ => exact Fin.ext h

theorem gathV_at (o : Fin 2) (s : Vec Ideal S1x2x128 .f32) (r : Fin 2) (l : Fin 128) :
    gathV (F := Ideal) (BitVec.ofNat 32 o.val) s (ix2 r l) = s (ix3 0 r ⟨2 * (l.val % 64) + o.val, by omega⟩) := by
  unfold gathV
  refine (dynamicGather_at _ _ r l ⟨2 * (l.val % 64) + o.val, by omega⟩ ?_).trans ?_
  · refine Eq.trans (congrArg (fun z : BitVec 32 => z.toNat % 128) ?_) (gatherIx_val o l)
    pointwise [gatherIx', gatherIx]
  · pointwise

theorem pickV_at (o : Fin 2) (s : Vec Ideal S1x2x128 .f32) (l : Fin 128) :
    pickV (F := Ideal) (BitVec.ofNat 32 o.val) s (ix2 0 l) = s (ix3 0 ⟨l.val / 64, by omega⟩ ⟨2 * (l.val % 64) + o.val, by omega⟩) := by
  have hc : IntOp.cmpi .slt (BitVec.ofNat 32 l.val) 64#32 = BitVec.ofBool (decide (l.val < 64)) :=
    (by decide : ∀ l : Fin 128, IntOp.cmpi .slt (BitVec.ofNat 32 l.val) 64#32 = BitVec.ofBool (decide (l.val < 64))) l
  have h0 := gathV_at o s 0 l
  have h1 := gathV_at o s 1 l
  pointwise [pickV]
  rw [hc, h0, h1]
  by_cases h : l.val < 64
  · rw [decide_eq_true h]
    exact congrArg (fun z : Fin 2 => s (ix3 0 z ⟨2 * (l.val % 64) + o.val, by omega⟩)) (Fin.ext (by show 0 = l.val / 64; omega))
  · rw [decide_eq_false h]
    exact congrArg (fun z : Fin 2 => s (ix3 0 z ⟨2 * (l.val % 64) + o.val, by omega⟩)) (Fin.ext (by show 1 = l.val / 64; omega))

theorem scaleRows_at (s : Vec Ideal S1x2x128 .f32) (r : Fin 8) (l : Fin 128) :
    scaleRows (F := Ideal) s (ix2 r l) = s (ix3 0 ⟨l.val / 64, by omega⟩ ⟨2 * (l.val % 64) + r.val % 4 / 2, by omega⟩) := by
  have h0 := pickV_at 0 s l
  have h1 := pickV_at 1 s l
  have hc : IntOp.cmpi .slt (IntOp.andi (BitVec.ofNat 32 r.val) 3#32) 2#32 = BitVec.ofBool (decide (r.val % 4 < 2)) :=
    (by decide : ∀ r : Fin 8, IntOp.cmpi .slt (IntOp.andi (BitVec.ofNat 32 r.val) 3#32) 2#32 = BitVec.ofBool (decide (r.val % 4 < 2))) r
  pointwise [scaleRows, k0_pay435]
  rw [hc]
  by_cases h : r.val % 4 < 2
  · rw [decide_eq_true h]
    exact h0.trans (congrArg (fun z : Fin 128 => s (ix3 0 ⟨l.val / 64, by omega⟩ z)) (Fin.ext (by show 2 * (l.val % 64) + 0 = 2 * (l.val % 64) + r.val % 4 / 2; omega)))
  · rw [decide_eq_false h]
    exact h1.trans (congrArg (fun z : Fin 128 => s (ix3 0 ⟨l.val / 64, by omega⟩ z)) (Fin.ext (by show 2 * (l.val % 64) + 1 = 2 * (l.val % 64) + r.val % 4 / 2; omega)))

theorem byteOf (T : IVec S128x128 32) (r : Fin 512) (l : Fin 128) (q : ℕ) (hq : q < 8) :
    (bitcast S512x128 8 T bitcasts_S128x128_w32_S512x128_w8 (ix2 r l)).getLsbD q = (T (ix2 ⟨r.val / 4, by omega⟩ l)).getLsbD (8 * (r.val % 4) + q) := by
  rw [bitcast_getLsbD T bitcasts_S128x128_w32_S512x128_w8 _ q hq (by decide)]
  have hr : Shape.row (s := S512x128) (ix2 r l) = r.val := rfl
  refine congrArg₂ (fun (x : BitVec 32) y => x.getLsbD y) (congrArg T ?_) ?_
  · funext c
    match c with
    | ⟨0, _⟩ => exact Fin.ext ((bitcasts_S128x128_w32_S512x128_w8.srcIdx_row _ _ _ ⟨0, Nat.zero_lt_two⟩ rfl).trans (by rw [hr]; show _ = r.val / 4; omega))
    | ⟨1, _⟩ => exact Fin.ext (bitcasts_S128x128_w32_S512x128_w8.srcIdx_other _ _ _ ⟨1, Nat.one_lt_two⟩ (by show ¬ 1 + 2 = 2; omega))
  · rw [hr]
    omega

theorem amTurned_at (off : Elt Ideal .f32) (T : IVec S128x128 32) (s : Vec Ideal S1x2x128 .f32) (r : Fin 512) (l : Fin 128) :
    amTurned (F := Ideal) off T s (ix2 r l) = FloatOps.sitofp (F := Ideal) .f32 (bitcast S512x128 8 T bitcasts_S128x128_w32_S512x128_w8 (ix2 r l)) * scaleRows (F := Ideal) s (ix2 ⟨r.val % 8, by omega⟩ l) + off := by
  pointwise [amTurned]

theorem twiceV_at (x : FVec Ideal S256x128 .bf16) (b : Fin 64) (s : Fin 8) (l : Fin 128) : twiceV (F := Ideal) x (ix5 0 b s 0 l) = x (ix2 ⟨4 * b.val + s.val % 4, by omega⟩ l) := by
  pointwise [twiceV]
  by_cases h : s.val < 4
  · rw [dif_pos h]
    exact congrArg (fun z : Fin 256 => x (ix2 z l)) (Fin.ext (by show b.val * 4 + s.val = 4 * b.val + s.val % 4; omega))
  · rw [dif_neg h]
    exact congrArg (fun z : Fin 256 => x (ix2 z l)) (Fin.ext (by show b.val * 4 + (s.val - 4) = 4 * b.val + s.val % 4; omega))

theorem amStore_at (off : Elt Ideal .f32) (T : IVec S128x128 32) (s : Vec Ideal S1x2x128 .f32) (b : Fin 64) (e : Fin 8) (p : Fin 2) (l : Fin 128) :
    amStore (F := Ideal) off T s (ix5 0 b e p l) = amTurned (F := Ideal) off T s (ix2 ⟨256 * p.val + 4 * b.val + e.val % 4, by omega⟩ l) := by
  have h0 := twiceV_at (extractStridedSlice S256x128 ![0, 0] (amTurned (F := Ideal) off T s) slices_S512x128_o0_0_S256x128) b e l
  have h1 := twiceV_at (extractStridedSlice S256x128 ![256, 0] (amTurned (F := Ideal) off T s) slices_S512x128_o256_0_S256x128) b e l
  pointwise at h0 h1
  pointwise [amStore]
  have hz : (⟨p.val / 2, by omega⟩ : Fin 1) = 0 := Subsingleton.elim _ _
  rw [hz]
  by_cases h : p.val % 2 = 0
  · rw [if_pos h, h0]
    exact congrArg (fun z : Fin 512 => amTurned (F := Ideal) off T s (ix2 z l)) (Fin.ext (by show 4 * b.val + e.val % 4 = 256 * p.val + 4 * b.val + e.val % 4; omega))
  · rw [if_neg h, h1]
    exact congrArg (fun z : Fin 512 => amTurned (F := Ideal) off T s (ix2 z l)) (Fin.ext (by show 256 + (4 * b.val + e.val % 4) = 256 * p.val + 4 * b.val + e.val % 4; omega))

/-- The block scale of row `4 (128 g + l) + e % 4` of a block, block column `64 p + b`. -/
def amVal (off : EReal) (C : Vec Ideal S1024x128 .i8) (s : Vec Ideal S1x2x128 .f32) (g : Fin 2) (b : Fin 64) (e : Fin 8) (p : Fin 2) (l : Fin 128) : EReal :=
  FloatOps.sitofp (F := Ideal) .f32 (C (ix2 (⟨4 * (128 * g.val + l.val) + e.val % 4, by omega⟩ : Fin 1024) (⟨64 * p.val + b.val, by omega⟩ : Fin 128)) : BitVec 8)
    * s (ix3 0 ⟨l.val / 64, by omega⟩ ⟨2 * (l.val % 64) + e.val % 4 / 2, by omega⟩) + off

theorem amStore_val (off : Elt Ideal .f32) (C : Vec Ideal S1024x128 .i8) (T : IVec S128x128 32) (s : Vec Ideal S1x2x128 .f32) (g : Fin 2)
    (hT : ∀ k l : Fin 128, T (ix2 k l) = wordsV (F := Ideal) C (ix2 ⟨128 * g.val + l.val, by omega⟩ k)) (b : Fin 64) (e : Fin 8) (p : Fin 2) (l : Fin 128) :
    amStore (F := Ideal) off T s (ix5 0 b e p l) = amVal off C s g b e p l := by
  rw [amStore_at, amTurned_at]
  unfold amVal
  refine congrArg₂ (fun x y : EReal => x + y) (congrArg₂ (fun x y : EReal => x * y) (congrArg (FloatOps.sitofp (F := Ideal) FTy.f32) ?_) ?_) rfl
  · apply BitVec.eq_of_getLsbD_eq
    intro q hq
    rw [byteOf T _ l q hq, hT, wordsV_bit C _ _ _ (by dsimp only; omega)]
    refine congrArg₂ (fun (x : BitVec 8) y => x.getLsbD y) (congrArg C ((ix2_inj ..).2 ⟨Fin.ext ?_, Fin.ext ?_⟩)) ?_ <;> dsimp only <;> omega
  · rw [scaleRows_at]
    refine congrArg (fun z : Fin 128 => s (ix3 0 ⟨l.val / 64, by omega⟩ z)) (Fin.ext ?_)
    dsimp only
    omega

/-- The scales' scratch after a grid point's two stores. -/
def amG (off : EReal) (C : Vec Ideal S1024x128 .i8) (s0 s1 : Vec Ideal S1x2x128 .f32) (y : S2x64x8x2x128.Idx) : EReal :=
  amVal off C (if (y 0).val = 0 then s0 else s1) (y 0) (y 1) (y 2) (y 3) (y 4)

theorem ampiece_agree (off : Elt Ideal .f32) (C : Vec Ideal S1024x128 .i8) (s0 s1 s : Vec Ideal S1x2x128 .f32) (g : Fin 2) (hs : (if g.val = 0 then s0 else s1) = s)
    (T : IVec S128x128 32) (hT : ∀ k l : Fin 128, T (ix2 k l) = wordsV (F := Ideal) C (ix2 ⟨128 * g.val + l.val, by omega⟩ k))
    (inb : ∀ a, (![g.val, 0, 0, 0, 0] : Fin 5 → ℕ) a + S1x64x8x2x128.size a ≤ S2x64x8x2x128.size a) :
    ∀ x : S1x64x8x2x128.Idx, amStore (F := Ideal) off T s x = amG off C s0 s1 ((Rect.unit (s := S2x64x8x2x128) ![g.val, 0, 0, 0, 0] S1x64x8x2x128.size inb).emb x) := by
  intro x
  have hx0 : (x 0).val < 1 := (x 0).isLt
  have hx : x = ix5 0 (x 1) (x 2) (x 3) (x 4) := by
    funext a
    match a with
    | ⟨0, _⟩ => exact Subsingleton.elim (α := Fin 1) _ _
    | ⟨1, _⟩ => rfl
    | ⟨2, _⟩ => rfl
    | ⟨3, _⟩ => rfl
    | ⟨4, _⟩ => rfl
  have he : (Rect.unit (s := S2x64x8x2x128) ![g.val, 0, 0, 0, 0] S1x64x8x2x128.size inb).emb x = ix5 g (x 1) (x 2) (x 3) (x 4) := by
    funext a
    match a with
    | ⟨0, _⟩ => exact Fin.ext (by show g.val + 1 * (x 0).val = g.val; omega)
    | ⟨1, _⟩ => exact Fin.ext (by show 0 + 1 * (x 1).val = (x 1).val; omega)
    | ⟨2, _⟩ => exact Fin.ext (by show 0 + 1 * (x 2).val = (x 2).val; omega)
    | ⟨3, _⟩ => exact Fin.ext (by show 0 + 1 * (x 3).val = (x 3).val; omega)
    | ⟨4, _⟩ => exact Fin.ext (by show 0 + 1 * (x 4).val = (x 4).val; omega)
  rw [he]
  refine (congrArg (amStore (F := Ideal) off T s) hx).trans ?_
  refine (amStore_val off C T s g hT (x 1) (x 2) (x 3) (x 4)).trans ?_
  subst hs
  rfl

/-- Every index of the scales' scratch reads its block scale. -/
theorem read_am (v : View sig .tc .vmem S2x64x8x2x128 .bf16) (f : v.ty.Contents (Elt Ideal)) (off : Elt Ideal .f32) (C : Vec Ideal S1024x128 .i8) (s0 s1 : Vec Ideal S1x2x128 .f32) (y : S2x64x8x2x128.Idx) :
    v.read (Elt Ideal) (v.writes (Elt Ideal) f (amPieces (F := Ideal) off (wordsV (F := Ideal) C) s0 s1)) y = amG off C s0 s1 y := by
  rw [amPieces_eq]
  refine read_writes_agree v f (amG off C s0 s1) y _ ?_ ?_
  · simp only [List.forall_mem_cons]
    exact ⟨ampiece_agree off C s0 s1 s1 1 rfl _ (turn1_at _) _, ampiece_agree off C s0 s1 s0 0 rfl _ (turn0_at _) _, fun p hp => absurd hp List.not_mem_nil⟩
  · simp only [List.exists_mem_cons_iff, Rect.mem_set_unit]
    have h0 : (y 0).val < 2 := (y 0).isLt
    have h1 : (y 1).val < 64 := (y 1).isLt
    have h2 : (y 2).val < 8 := (y 2).isLt
    have h3 : (y 3).val < 2 := (y 3).isLt
    have h4 : (y 4).val < 128 := (y 4).isLt
    by_cases h : (y 0).val = 0
    · right; left
      intro a
      match a with
      | ⟨0, _⟩ => exact (by show 0 ≤ (y 0).val ∧ (y 0).val < 0 + 1; omega)
      | ⟨1, _⟩ => exact (by show 0 ≤ (y 1).val ∧ (y 1).val < 0 + 64; omega)
      | ⟨2, _⟩ => exact (by show 0 ≤ (y 2).val ∧ (y 2).val < 0 + 8; omega)
      | ⟨3, _⟩ => exact (by show 0 ≤ (y 3).val ∧ (y 3).val < 0 + 2; omega)
      | ⟨4, _⟩ => exact (by show 0 ≤ (y 4).val ∧ (y 4).val < 0 + 128; omega)
    · left
      intro a
      match a with
      | ⟨0, _⟩ => exact (by show 1 ≤ (y 0).val ∧ (y 0).val < 1 + 1; omega)
      | ⟨1, _⟩ => exact (by show 0 ≤ (y 1).val ∧ (y 1).val < 0 + 64; omega)
      | ⟨2, _⟩ => exact (by show 0 ≤ (y 2).val ∧ (y 2).val < 0 + 8; omega)
      | ⟨3, _⟩ => exact (by show 0 ≤ (y 3).val ∧ (y 3).val < 0 + 2; omega)
      | ⟨4, _⟩ => exact (by show 0 ≤ (y 4).val ∧ (y 4).val < 0 + 128; omega)

/-- What a chunk reads of the scales' scratch: both groups' reads, as one family. -/
def rdAB (arg8 : Memref sig .tc .vmem S2x64x8x2x128 .bf16) (X8 : BufTy.Contents (Elt Ideal) arg8.view.ty) (k : Fin k0_t1_loop.trips) (u g t : Fin 2) : Vec Ideal S1x1x8x2x128 .bf16 :=
  if g = 0 then rdA arg8 X8 k u t else rdB arg8 X8 k u t

theorem rdAB_at (arg8 : Memref sig .tc .vmem S2x64x8x2x128 .bf16) (f : arg8.view.ty.Contents (Elt Ideal)) (off : Elt Ideal .f32) (C : Vec Ideal S1024x128 .i8) (s0 s1 : Vec Ideal S1x2x128 .f32)
    (k : Fin k0_t1_loop.trips) (hk : k.val < 16) (u g t : Fin 2) (e : Fin 8) (p : Fin 2) (l : Fin 128) :
    rdAB arg8 (arg8.view.writes (Elt Ideal) f (amPieces (F := Ideal) off (wordsV (F := Ideal) C) s0 s1)) k u g t (ix5 0 0 e p l)
      = amVal off C (if g.val = 0 then s0 else s1) g ⟨4 * k.val + 2 * u.val + t.val, by omega⟩ e p l := by
  unfold rdAB
  by_cases hg : g = 0
  · subst hg
    rw [if_pos rfl]
    unfold rdA
    rw [View.readAt_unit _ _ _ (k0_off3_eq k u t) (by rw [← k0_off3_eq k u t]; exact k0_off3_inb k u t)]
    refine (read_am arg8.view f off C s0 s1 _).trans (congrArg (amG off C s0 s1) (a₂ := ix5 0 ⟨4 * k.val + 2 * u.val + t.val, by omega⟩ e p l) ?_)
    funext a
    match a with
    | ⟨0, _⟩ => exact Fin.ext rfl
    | ⟨1, _⟩ => exact Fin.ext rfl
    | ⟨2, _⟩ => exact Fin.ext (by show 0 + 1 * e.val = e.val; omega)
    | ⟨3, _⟩ => exact Fin.ext (by show 0 + 1 * p.val = p.val; omega)
    | ⟨4, _⟩ => exact Fin.ext (by show 0 + 1 * l.val = l.val; omega)
  · have hg1 : g = 1 := Fin.ext (by have := Fin.val_ne_of_ne hg; show g.val = 1; have h0 : ((0 : Fin 2)).val = 0 := rfl; omega)
    subst hg1
    rw [if_neg hg]
    unfold rdB
    rw [View.readAt_unit _ _ _ (k0_off4_eq k u t) (by rw [← k0_off4_eq k u t]; exact k0_off4_inb k u t)]
    refine (read_am arg8.view f off C s0 s1 _).trans (congrArg (amG off C s0 s1) (a₂ := ix5 1 ⟨4 * k.val + 2 * u.val + t.val, by omega⟩ e p l) ?_)
    funext a
    match a with
    | ⟨0, _⟩ => exact Fin.ext rfl
    | ⟨1, _⟩ => exact Fin.ext rfl
    | ⟨2, _⟩ => exact Fin.ext (by show 0 + 1 * e.val = e.val; omega)
    | ⟨3, _⟩ => exact Fin.ext (by show 0 + 1 * p.val = p.val; omega)
    | ⟨4, _⟩ => exact Fin.ext (by show 0 + 1 * l.val = l.val; omega)

theorem rdW_at (arg4 : Memref sig .tc .vmem S1024x4096 .i8) (harg4 : arg4.IsWhole) (x3 : Vec Ideal S1024x4096 .i8) (k : Fin k0_t1_loop.trips) (hk : k.val < 16) (u : Fin 2) (r : Fin 1024) (l : Fin 128) :
    rdW (F := Ideal) arg4 (harg4.unread x3) k u (ix2 r l) = x3 (ix2 r ⟨256 * k.val + 128 * u.val + l.val, by omega⟩) := by
  unfold rdW
  rw [View.readAt_unit _ _ _ (k0_off2_eq k u) (by rw [← k0_off2_eq k u]; exact k0_off2_inb k u), harg4.read_unread]
  refine congrArg x3 (a₂ := ix2 r ⟨256 * k.val + 128 * u.val + l.val, by omega⟩) ?_
  funext a
  match a with
  | ⟨0, _⟩ => exact Fin.ext (by show 0 + 1 * r.val = r.val; omega)
  | ⟨1, _⟩ => exact Fin.ext (by show 256 * k.val + 128 * u.val + 1 * l.val = 256 * k.val + 128 * u.val + l.val; omega)

theorem rdX_at (arg7 : Memref sig .tc .vmem S32x32x1024 .bf16) (harg7 : arg7.IsWhole) (xs : Vec Ideal S32x32x1024 .bf16) (k : Fin k0_t1_loop.trips) (hk : k.val < 16) (u : Fin 2) (q : Fin 32) (r : Fin 1024) :
    rdX (F := Ideal) arg7 (harg7.unread xs) k u (ix3 0 q r) = xs (ix3 ⟨2 * k.val + u.val, by omega⟩ q r) := by
  unfold rdX
  rw [View.readAt_unit _ _ _ (k0_off5_eq k u) (by rw [← k0_off5_eq k u]; exact k0_off5_inb k u), harg7.read_unread]
  refine congrArg xs (a₂ := ix3 ⟨2 * k.val + u.val, by omega⟩ q r) ?_
  funext a
  match a with
  | ⟨0, _⟩ => exact Fin.ext rfl
  | ⟨1, _⟩ => exact Fin.ext (by show 0 + 1 * q.val = q.val; omega)
  | ⟨2, _⟩ => exact Fin.ext (by show 0 + 1 * r.val = r.val; omega)
end Cert.KernelIdeal.Hand
-- ==== Proof.Sums.lean ====
module

public import proofs.«01_k».proof.Proof.Am

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## A grid point's accumulator, entry by entry -/

/-- One weight of a grid point's 1024 rows: the table's value at half `h` of packed column `k`, times the
row's block scale. -/
def wAt (off : EReal) (x2 : Vec Ideal S22x2x128 .f32) (x3 : Vec Ideal S1024x4096 .i8) (x4 : Vec Ideal S1024x128 .i8) (i : Fin 11) (R : Fin 1024) (k : Fin 4096) (h : Fin 2) : EReal :=
  nf4b (x3 (ix2 R k)) h.val * (FloatOps.sitofp (F := Ideal) .f32 (x4 (ix2 R (⟨64 * h.val + k.val / 64, by omega⟩ : Fin 128)) : BitVec 8)
    * x2 (ix3 ⟨2 * i.val + R.val / 512, by omega⟩ ⟨R.val % 512 / 256, by omega⟩ ⟨R.val % 256 / 2, by omega⟩) + off)

/-- One chunk's contribution to the accumulator. -/
def chunkSum (xs : Vec Ideal S32x32x1024 .bf16) (off : EReal) (x2 : Vec Ideal S22x2x128 .f32) (x3 : Vec Ideal S1024x4096 .i8) (x4 : Vec Ideal S1024x128 .i8) (i : Fin 11) (q : Fin 32) (n : Fin 256) (c : ℕ) : EReal :=
  if hc : c < 32 then ∑ r : Fin 1024, xs (ix3 ⟨c, hc⟩ q r) * wAt off x2 x3 x4 i ⟨4 * n.val + r.val % 8 / 2, by omega⟩ ⟨128 * c + r.val / 8, by omega⟩ ⟨r.val % 2, by omega⟩ else 0

theorem trips_16 : k0_t1_loop.trips = 16 := by decide

theorem scaleV0_at (i : grid0.Coords) (arg3 : Memref sig .tc .vmem S22x2x128 .f32) (harg3 : arg3.IsWhole) (x2 : Vec Ideal S22x2x128 .f32) (hi : (i 0).val < 11) (r : Fin 2) (l : Fin 128) :
    scaleV0 (F := Ideal) i arg3 harg3 x2 (ix3 0 r l) = x2 (ix3 ⟨2 * (i 0).val + 0, by omega⟩ r l) := by
  unfold scaleV0
  rw [View.readAt_unit _ _ _ (k0_off1_eq i 0) (by rw [← k0_off1_eq i 0]; exact k0_off1_inb i 0), harg3.read_unread]
  refine congrArg x2 (a₂ := ix3 ⟨2 * (i 0).val + 0, by omega⟩ r l) ?_
  funext a
  match a with
  | ⟨0, _⟩ => exact Fin.ext rfl
  | ⟨1, _⟩ => exact Fin.ext (by show 0 + 1 * r.val = r.val; omega)
  | ⟨2, _⟩ => exact Fin.ext (by show 0 + 1 * l.val = l.val; omega)

theorem scaleV1_at (i : grid0.Coords) (arg3 : Memref sig .tc .vmem S22x2x128 .f32) (harg3 : arg3.IsWhole) (x2 : Vec Ideal S22x2x128 .f32) (hi : (i 0).val < 11) (r : Fin 2) (l : Fin 128) :
    scaleV1 (F := Ideal) i arg3 harg3 x2 (ix3 0 r l) = x2 (ix3 ⟨2 * (i 0).val + 1, by omega⟩ r l) := by
  unfold scaleV1
  rw [View.readAt_unit _ _ _ (k0_off1_eq i 1) (by rw [← k0_off1_eq i 1]; exact k0_off1_inb i 1), harg3.read_unread]
  refine congrArg x2 (a₂ := ix3 ⟨2 * (i 0).val + 1, by omega⟩ r l) ?_
  funext a
  match a with
  | ⟨0, _⟩ => exact Fin.ext rfl
  | ⟨1, _⟩ => exact Fin.ext (by show 0 + 1 * r.val = r.val; omega)
  | ⟨2, _⟩ => exact Fin.ext (by show 0 + 1 * l.val = l.val; omega)

theorem codesV_eq (arg5 : Memref sig .tc .vmem S1024x128 .i8) (harg5 : arg5.IsWhole) (x4 : Vec Ideal S1024x128 .i8) : codesV (F := Ideal) arg5 harg5 x4 = wordsV (F := Ideal) x4 := by
  unfold codesV
  rw [View.readAt_full, harg5.read_unread]
  rfl

/-- A weight as a chunk computes it. -/
theorem weight_at (i : grid0.Coords) (hi : (i 0).val < 11) (arg3 : Memref sig .tc .vmem S22x2x128 .f32) (harg3 : arg3.IsWhole) (off : EReal) (x2 : Vec Ideal S22x2x128 .f32) (x3 : Vec Ideal S1024x4096 .i8) (x4 : Vec Ideal S1024x128 .i8)
    (c : ℕ) (hc : c < 32) (n : Fin 256) (r : Fin 1024) (b : Fin 64) (hb : b.val = 2 * c + r.val / 512) :
    nf4b (x3 (ix2 (⟨4 * n.val + r.val % 8 / 2, by omega⟩ : Fin 1024) (⟨128 * c + r.val / 8, by omega⟩ : Fin 4096))) (r.val % 2)
      * amVal off x4 (if n.val / 128 = 0 then scaleV0 (F := Ideal) i arg3 harg3 x2 else scaleV1 (F := Ideal) i arg3 harg3 x2) ⟨n.val / 128, by omega⟩ b ⟨r.val % 16 / 2, by omega⟩ ⟨r.val % 2, by omega⟩ ⟨n.val % 128, by omega⟩
      = wAt off x2 x3 x4 ⟨(i 0).val, hi⟩ ⟨4 * n.val + r.val % 8 / 2, by omega⟩ ⟨128 * c + r.val / 8, by omega⟩ ⟨r.val % 2, by omega⟩ := by
  unfold wAt amVal
  refine congrArg _ (congrArg₂ (fun x y : EReal => x + y) (congrArg₂ (fun x y : EReal => x * y) (congrArg (fun z : S1024x128.Idx => FloatOps.sitofp (F := Ideal) FTy.f32 (x4 z : BitVec 8)) ?_) ?_) rfl)
  · refine (ix2_inj ..).2 ⟨Fin.ext ?_, Fin.ext ?_⟩ <;> dsimp only <;> omega
  · by_cases h : n.val / 128 = 0
    · rw [if_pos h]
      refine (scaleV0_at i arg3 harg3 x2 hi _ _).trans (congrArg x2 ?_)
      refine (ix3_inj ..).2 ⟨Fin.ext ?_, Fin.ext ?_, Fin.ext ?_⟩ <;> dsimp only <;> omega
    · rw [if_neg h]
      refine (scaleV1_at i arg3 harg3 x2 hi _ _).trans (congrArg x2 ?_)
      refine (ix3_inj ..).2 ⟨Fin.ext ?_, Fin.ext ?_, Fin.ext ?_⟩ <;> dsimp only <;> omega

/-- A chunk's step adds its contribution. -/
theorem stepV_at (i : grid0.Coords) (hi : (i 0).val < 11) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (off : Elt Ideal .f32) (x2 : Vec Ideal S22x2x128 .f32) (x3 : Vec Ideal S1024x4096 .i8) (x4 : Vec Ideal S1024x128 .i8) (xs : Vec Ideal S32x32x1024 .bf16)
    (k : Fin k0_t1_loop.trips) (u : Fin 2) (acc : FVec Ideal S32x256 .f32) (q : Fin 32) (n : Fin 256) :
    stepV (F := Ideal) arg4 arg7 arg8 (harg4.unread x3) (harg7.unread xs)
      (arg8.view.writes (Elt Ideal) arg8.view.junk (amPieces (F := Ideal) off (wordsV (F := Ideal) x4) (scaleV0 (F := Ideal) i arg3 harg3 x2) (scaleV1 (F := Ideal) i arg3 harg3 x2))) k u acc (ix2 q n)
      = acc (ix2 q n) + chunkSum xs off x2 x3 x4 ⟨(i 0).val, hi⟩ q n (2 * k.val + u.val) := by
  have hk : k.val < 16 := lt_of_lt_of_eq k.isLt trips_16
  refine (chunkV_at acc (rdW (F := Ideal) arg4 (harg4.unread x3) k u) (rdAB arg8 (arg8.view.writes (Elt Ideal) arg8.view.junk (amPieces (F := Ideal) off (wordsV (F := Ideal) x4) (scaleV0 (F := Ideal) i arg3 harg3 x2) (scaleV1 (F := Ideal) i arg3 harg3 x2))) k u)
    (rdX (F := Ideal) arg7 (harg7.unread xs) k u) q n).trans ?_
  unfold chunkSum
  rw [dif_pos (by omega)]
  refine congrArg _ (Finset.sum_congr rfl fun r _ => ?_)
  rw [rdX_at arg7 harg7 xs k hk u q r]
  refine congrArg _ (Eq.trans ?_ (weight_at i hi arg3 harg3 off x2 x3 x4 (2 * k.val + u.val) (by omega) n r ⟨2 * (2 * k.val + u.val) + r.val / 512, by omega⟩ rfl))
  refine congrArg₂ (fun x y : EReal => x * y) (congrArg (fun z => nf4b z (r.val % 2)) ?_) ?_
  · refine (rdW_at arg4 harg4 x3 k hk u _ _).trans (congrArg x3 ((ix2_inj ..).2 ⟨rfl, Fin.ext ?_⟩))
    dsimp only
    omega
  · refine (rdAB_at arg8 _ off x4 _ _ k hk u _ _ _ _ _).trans ?_
    refine congrArg (fun b : Fin 64 => amVal off x4 _ _ b _ _ _) (Fin.ext ?_)
    dsimp only
    omega

/-- The accumulator after `k` trips. -/
theorem st_at (c : Dev nD) (i : grid0.Coords) (hi : (i 0).val < 11) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (off : Elt Ideal .f32) (x2 : Vec Ideal S22x2x128 .f32) (x3 : Vec Ideal S1024x4096 .i8) (x4 : Vec Ideal S1024x128 .i8) (xs : Vec Ideal S32x32x1024 .bf16)
    (a0 : BitVec 32) (v3 : Elt Ideal .f32) (v9 : IVec S256x128 32) (v128 : FVec Ideal S1x128 .f32) (v130 : IVec S8x128 1) (v132 : FVec Ideal S8x128 .f32) (q : Fin 32) (n : Fin 256) :
    ∀ k : ℕ, k ≤ k0_t1_loop.trips → st_k0_t1 (F := Ideal) Variants.none c none i arg1 harg1 arg2 harg2 arg3 harg3 arg4 harg4 arg5 harg5 arg6 harg6 arg7 harg7 arg8 harg8 arg9 harg9 a0 v3 v9 v128 v130 v132 (harg4.unread x3) (harg7.unread xs)
      (arg8.view.writes (Elt Ideal) arg8.view.junk (amPieces (F := Ideal) off (wordsV (F := Ideal) x4) (scaleV0 (F := Ideal) i arg3 harg3 x2) (scaleV1 (F := Ideal) i arg3 harg3 x2))) (k0_pay448 (F := Ideal)) k (ix2 q n)
      = ∑ c ∈ Finset.range (2 * k), chunkSum xs off x2 x3 x4 ⟨(i 0).val, hi⟩ q n c
  | 0, _ => by
    rw [st_k0_t1_zero, Nat.mul_zero, Finset.sum_range_zero]
    pointwise [k0_pay448]
  | k + 1, hk => by
    have ih := st_at c i hi arg1 harg1 arg2 harg2 arg3 harg3 arg4 harg4 arg5 harg5 arg6 harg6 arg7 harg7 arg8 harg8 arg9 harg9 off x2 x3 x4 xs a0 v3 v9 v128 v130 v132 q n k (by omega)
    refine (congrFun (st_k0_t1_succ Variants.none c none i arg1 harg1 arg2 harg2 arg3 harg3 arg4 harg4 arg5 harg5 arg6 harg6 arg7 harg7 arg8 harg8 arg9 harg9 a0 v3 v9 v128 v130 v132 _ _ _ _ ⟨k, hk⟩) (ix2 q n)).trans ?_
    refine (congrFun (trip_eq c i arg1 harg1 arg2 harg2 arg3 harg3 arg4 harg4 arg5 harg5 arg6 harg6 arg7 harg7 arg8 harg8 arg9 harg9 a0 v3 v9 v128 v130 v132 _ _ _ ⟨k, hk⟩ _) (ix2 q n)).trans ?_
    refine (stepV_at i hi arg1 harg1 arg2 harg2 arg3 harg3 arg4 harg4 arg5 harg5 arg6 harg6 arg7 harg7 arg8 harg8 arg9 harg9 off x2 x3 x4 xs ⟨k, hk⟩ 1 _ q n).trans ?_
    rw [stepV_at i hi arg1 harg1 arg2 harg2 arg3 harg3 arg4 harg4 arg5 harg5 arg6 harg6 arg7 harg7 arg8 harg8 arg9 harg9 off x2 x3 x4 xs ⟨k, hk⟩ 0 _ q n, ih, show 2 * (k + 1) = 2 * k + 1 + 1 from rfl, Finset.sum_range_succ, Finset.sum_range_succ]
    rfl

/-- The accumulator after the loop. -/
theorem accV_at (c : Dev nD) (i : grid0.Coords) (hi : (i 0).val < 11) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (x0 : Vec Ideal S1 .f32) (x2 : Vec Ideal S22x2x128 .f32) (x3 : Vec Ideal S1024x4096 .i8) (x4 : Vec Ideal S1024x128 .i8) (xs : Vec Ideal S32x32x1024 .bf16) (q : Fin 32) (n : Fin 256) :
    accV (F := Ideal) c i arg1 harg1 arg2 harg2 arg3 harg3 arg4 harg4 arg5 harg5 arg6 harg6 arg7 harg7 arg8 harg8 arg9 harg9 x0 x2 x3 x4 (harg7.unread xs) (ix2 q n)
      = ∑ c : Fin 32, ∑ r : Fin 1024, xs (ix3 c q r) * wAt (x0 (ix1 0)) x2 x3 x4 ⟨(i 0).val, hi⟩ ⟨4 * n.val + r.val % 8 / 2, by omega⟩ ⟨128 * c.val + r.val / 8, by omega⟩ ⟨r.val % 2, by omega⟩ := by
  have hoff : offV (F := Ideal) arg1 harg1 x0 = x0 (ix1 0) := by
    unfold offV
    refine (congrFun (View.readAt_full (s := S1) arg1.view _ _) _).trans ?_
    rw [harg1.read_unread]
    exact congrArg x0 (funext fun a => by match a with | ⟨0, _⟩ => exact Subsingleton.elim (α := Fin 1) _ _)
  unfold accV
  rw [codesV_eq, hoff]
  refine (st_at c i hi arg1 harg1 arg2 harg2 arg3 harg3 arg4 harg4 arg5 harg5 arg6 harg6 arg7 harg7 arg8 harg8 arg9 harg9 (x0 (ix1 0)) x2 x3 x4 xs _ _ _ _ _ _ q n _ (le_of_eq rfl)).trans ?_
  rw [show 2 * Scf.trips k0_t1_loop.lb k0_t1_loop.ub k0_t1_loop.st = 32 from by decide, Finset.sum_range]
  refine Finset.sum_congr rfl fun c _ => ?_
  unfold chunkSum
  rw [dif_pos c.isLt]
end Cert.KernelIdeal.Hand
-- ==== Proof.Expand.lean ====
module

public import proofs.«01_k».proof.Proof.Sums
public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The activations spread over the rows of a word -/

/-- A comparison's bit, widened and converted: 1 or 0. -/
theorem bit_real (φ : FTy) (b : Bool) : FloatOps.sitofp (F := Ideal) φ (BitVec.setWidth 32 (BitVec.ofBool b)) = (if b then 1 else 0 : EReal) := by
  cases b
  · exact (congrArg (fun z : ℤ => ((z : ℝ) : EReal)) (by decide : (BitVec.setWidth 32 (BitVec.ofBool false)).toInt = 0)).trans (by simp)
  · exact (congrArg (fun z : ℤ => ((z : ℝ) : EReal)) (by decide : (BitVec.setWidth 32 (BitVec.ofBool true)).toInt = 1)).trans (by simp)

/-- A dot with a 0/1 column that picks one index is the entry there. -/
theorem sum_pick {n : ℕ} (f : Fin n → EReal) (p : Fin n → Bool) (k : Fin n) (h : ∀ a, p a = decide (a = k)) :
    ∑ a : Fin n, f a * (if p a then 1 else 0) = f k := by
  rw [Finset.sum_eq_single k]
  · rw [h k, if_pos (decide_eq_true rfl), mul_one]
  · intro b _ hb
    rw [h b, if_neg (by rw [decide_eq_false hb]; exact Bool.false_ne_true), mul_zero]
  · exact fun h => absurd (Finset.mem_univ k) h

theorem xPair_inb (o : ℕ) (ho : o + 128 ≤ 8192) : ∀ a, (![0, o] : Fin 2 → ℕ) a + S8x128.size a ≤ S8x8192.size a := fun a => by
  match a with
  | ⟨0, _⟩ => exact (by decide : 0 + 8 ≤ 8)
  | ⟨1, _⟩ => exact ho

/-- The two halves of a chunk's columns of the activations, side by side. -/
def xPairV (arg2 : Memref sig .tc .vmem S8x8192 .bf16) (harg2 : arg2.IsWhole) (x1 : Vec F S8x8192 .bf16) (n : Fin 32) : FVec F S8x256 .bf16 :=
  concatenate S8x256 1 [⟨S8x128, shapeCast S8x128 (View.readAt (Elt F) arg2.view (Rect.unit (s := S8x8192) ![0, 128 * n.val] S8x128.size (xPair_inb (128 * n.val) (by omega))).toLoadRect (harg2.unread x1)) shapeCasts_S8x128_S8x128⟩,
    ⟨S8x128, shapeCast S8x128 (View.readAt (Elt F) arg2.view (Rect.unit (s := S8x8192) ![0, 4096 + 128 * n.val] S8x128.size (xPair_inb (4096 + 128 * n.val) (by omega))).toLoadRect (harg2.unread x1)) shapeCasts_S8x128_S8x128⟩] concatenates_S8x128_S8x128_S8x256_d1

theorem xPairV_at (arg2 : Memref sig .tc .vmem S8x8192 .bf16) (harg2 : arg2.IsWhole) (x1 : Vec Ideal S8x8192 .bf16) (n : Fin 32) (t : Fin 8) (k : Fin 256) :
    xPairV (F := Ideal) arg2 harg2 x1 n (ix2 t k) = x1 (ix2 t ⟨4096 * (k.val / 128) + 128 * n.val + k.val % 128, by omega⟩) := by
  pointwise [xPairV]
  by_cases h : k.val < 128
  · rw [dif_pos h, View.readAt_unit _ _ _ rfl (xPair_inb _ (by omega)), harg2.read_unread]
    refine congrArg x1 (a₂ := ix2 t ⟨4096 * (k.val / 128) + 128 * n.val + k.val % 128, by omega⟩) ?_
    funext a
    match a with
    | ⟨0, _⟩ => exact Fin.ext (by show 0 + 1 * t.val = t.val; omega)
    | ⟨1, _⟩ => exact Fin.ext (by show 128 * n.val + 1 * k.val = 4096 * (k.val / 128) + 128 * n.val + k.val % 128; omega)
  · rw [dif_neg h, View.readAt_unit _ _ _ rfl (xPair_inb _ (by omega)), harg2.read_unread]
    refine congrArg x1 (a₂ := ix2 t ⟨4096 * (k.val / 128) + 128 * n.val + k.val % 128, by omega⟩) ?_
    funext a
    match a with
    | ⟨0, _⟩ => exact Fin.ext (by show 0 + 1 * t.val = t.val; omega)
    | ⟨1, _⟩ => exact Fin.ext (by show 4096 + 128 * n.val + 1 * (k.val - 128) = 4096 * (k.val / 128) + 128 * n.val + k.val % 128; omega)

theorem xRows_eq (c : Dev nD) (arg2 : Memref sig .tc .vmem S8x8192 .bf16) (harg2 : arg2.IsWhole) (x1 : Vec F S8x8192 .bf16) :
    runA0.sl.v392 c arg2 harg2 x1 = concatenate S256x256 0 (List.ofFn fun n : Fin 32 => (⟨S8x256, xPairV arg2 harg2 x1 n⟩ : (s : Shape) × (s.Idx → F .bf16))) concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0 := rfl

/-- All chunks' columns, one under the other. -/
theorem xRows_at (c : Dev nD) (arg2 : Memref sig .tc .vmem S8x8192 .bf16) (harg2 : arg2.IsWhole) (x1 : Vec Ideal S8x8192 .bf16) (r k : Fin 256) :
    runA0.sl.v392 (F := Ideal) c arg2 harg2 x1 (ix2 r k) = x1 (ix2 ⟨r.val % 8, by omega⟩ ⟨4096 * (k.val / 128) + 128 * (r.val / 8) + k.val % 128, by omega⟩) := by
  rw [xRows_eq c arg2 harg2 x1]
  refine (concatenate_ofFn_apply (t := S256x256) (s₁ := S8x256) 0 (fun n : Fin 32 => xPairV (F := Ideal) arg2 harg2 x1 n) _ rfl 8 rfl (ix2 r k) ⟨r.val / 8, by omega⟩ rfl (ix2 ⟨r.val % 8, by omega⟩ k) rfl ?_).trans (xPairV_at ..)
  intro b hb
  match b with
  | ⟨0, _⟩ => exact absurd rfl hb
  | ⟨1, _⟩ => rfl

theorem pick_col : ∀ (k : Fin 256) (r : Fin 1024), IntOp.cmpi .eq (BitVec.ofNat 32 k.val) (IntOp.addi (IntOp.shrsi .vector (BitVec.ofNat 32 r.val) 3#32) (IntOp.muli (IntOp.andi (BitVec.ofNat 32 r.val) 1#32) 128#32))
    = BitVec.ofBool (decide (k.val = r.val / 8 + 128 * (r.val % 2))) := by
  intro k r
  have h : IntOp.addi (IntOp.shrsi .vector (BitVec.ofNat 32 r.val) 3#32) (IntOp.muli (IntOp.andi (BitVec.ofNat 32 r.val) 1#32) 128#32) = BitVec.ofNat 32 (r.val / 8 + 128 * (r.val % 2)) :=
    (by decide +kernel : ∀ r : Fin 1024, IntOp.addi (IntOp.shrsi .vector (BitVec.ofNat 32 r.val) 3#32) (IntOp.muli (IntOp.andi (BitVec.ofNat 32 r.val) 1#32) 128#32) = BitVec.ofNat 32 (r.val / 8 + 128 * (r.val % 2))) r
  rw [h]
  refine congrArg BitVec.ofBool ?_
  show decide (BitVec.ofNat 32 k.val = BitVec.ofNat 32 (r.val / 8 + 128 * (r.val % 2))) = _
  refine decide_eq_decide.mpr ⟨fun e => ?_, fun e => congrArg _ e⟩
  have e' := congrArg BitVec.toNat e
  rw [BitVec.toNat_ofNat, BitVec.toNat_ofNat, Nat.mod_eq_of_lt (by omega), Nat.mod_eq_of_lt (by omega)] at e'
  exact e'

/-- The spread activations: column `r` of a chunk is packed column `r / 8` at half `r % 2`. -/
theorem spread_at (c : Dev nD) (arg2 : Memref sig .tc .vmem S8x8192 .bf16) (harg2 : arg2.IsWhole) (x1 : Vec Ideal S8x8192 .bf16) (q : Fin 256) (r : Fin 1024) :
    runA0.sl.r_1 (F := Ideal) c arg2 harg2 x1 (ix2 q r) = x1 (ix2 ⟨q.val % 8, by omega⟩ ⟨4096 * (r.val % 2) + 128 * (q.val / 8) + r.val / 8, by omega⟩) := by
  refine Eq.trans (b := ∑ k : Fin 256, runA0.sl.v392 (F := Ideal) c arg2 harg2 x1 (ix2 q k) * (if decide (k.val = r.val / 8 + 128 * (r.val % 2)) then 1 else 0)) ?_ ?_
  · refine Eq.trans (b := ∑ k : Fin 256, runA0.sl.v392 (F := Ideal) c arg2 harg2 x1 (ix2 q k) * FloatOps.sitofp (F := Ideal) .f32 (BitVec.setWidth 32 (IntOp.cmpi .eq (BitVec.ofNat 32 k.val) (IntOp.addi (IntOp.shrsi .vector (BitVec.ofNat 32 r.val) 3#32) (IntOp.muli (IntOp.andi (BitVec.ofNat 32 r.val) 1#32) 128#32))))) ?_ ?_
    · pointwise [runA0.sl.r_1, k0_pay37, runA0.sl.v393, runA0.sl.v394, runA0.sl.v395, runA0.sl.v400, runA0.sl.v397, runA0.sl.v399]
    · refine Finset.sum_congr rfl fun k _ => congrArg _ ?_
      rw [pick_col, bit_real]
  · refine (sum_pick _ _ ⟨r.val / 8 + 128 * (r.val % 2), by omega⟩ fun a => decide_eq_decide.mpr ⟨fun e => Fin.ext e, fun e => congrArg Fin.val e⟩).trans ?_
    refine (xRows_at ..).trans (congrArg x1 ((ix2_inj ..).2 ⟨rfl, Fin.ext ?_⟩))
    dsimp only
    omega

/-- One piece of the spread activations: chunk `n`'s rows of the dot, kept where the column belongs to row `j` of a word. -/
def xePay (D : FVec F S256x1024 .f32) (n j : ℕ) (hs : S256x1024.Slices ![8 * n, 0] S8x1024) : FVec F S1x8x1024 .bf16 :=
  shapeCast S1x8x1024 (truncf .bf16 (select (cmpi .eq k0_pay38 (broadcast S8x1024 (BitVec.ofNat 32 j))) (extractStridedSlice S8x1024 ![8 * n, 0] D hs)
    (broadcast S8x1024 (Scalar.ofBits .f32 0x00000000#32))) bitsLt_bf16_f32) shapeCasts_S8x1024_S1x8x1024

/-- What the spread activations' scratch holds. -/
def xeG (x1 : Vec Ideal S8x8192 .bf16) (y : S32x32x1024.Idx) : EReal :=
  if (y 2).val % 8 / 2 = (y 1).val / 8 then x1 (ix2 ⟨(y 1).val % 8, by omega⟩ ⟨4096 * ((y 2).val % 2) + 128 * (y 0).val + (y 2).val / 8, by
    have h0 : (y 0).val < 32 := (y 0).isLt
    have h2 : (y 2).val < 1024 := (y 2).isLt
    omega⟩) else 0

theorem word_row : ∀ (r : Fin 1024) (j : Fin 4), IntOp.cmpi .eq (IntOp.andi (IntOp.shrsi .vector (BitVec.ofNat 32 r.val) 1#32) 3#32) (BitVec.ofNat 32 j.val) = BitVec.ofBool (decide (r.val % 8 / 2 = j.val)) := by
  decide +kernel

theorem xePay_at (c : Dev nD) (arg2 : Memref sig .tc .vmem S8x8192 .bf16) (harg2 : arg2.IsWhole) (x1 : Vec Ideal S8x8192 .bf16) (n : Fin 32) (j : Fin 4) (hs) (t : Fin 8) (r : Fin 1024) :
    xePay (F := Ideal) (runA0.sl.r_1 c arg2 harg2 x1) n.val j.val hs (ix3 0 t r) = if r.val % 8 / 2 = j.val then x1 (ix2 t ⟨4096 * (r.val % 2) + 128 * n.val + r.val / 8, by omega⟩) else 0 := by
  have hD := spread_at c arg2 harg2 x1 ⟨8 * n.val + t.val, by omega⟩ r
  refine Eq.trans (b := Scalar.select (IntOp.cmpi .eq (IntOp.andi (IntOp.shrsi .vector (BitVec.ofNat 32 r.val) 1#32) 3#32) (BitVec.ofNat 32 j.val)) (runA0.sl.r_1 (F := Ideal) c arg2 harg2 x1 (ix2 ⟨8 * n.val + t.val, by omega⟩ r)) 0) ?_ ?_
  · pointwise [xePay, k0_pay38]
  · rw [word_row, hD]
    by_cases h : r.val % 8 / 2 = j.val
    · rw [if_pos h, decide_eq_true h]
      exact congrArg x1 ((ix2_inj ..).2 ⟨Fin.ext (by dsimp only; omega), Fin.ext (by dsimp only; omega)⟩)
    · rw [if_neg h, decide_eq_false h]
      rfl

theorem xpiece_agree (c : Dev nD) (arg2 : Memref sig .tc .vmem S8x8192 .bf16) (harg2 : arg2.IsWhole) (x1 : Vec Ideal S8x8192 .bf16) (n : Fin 32) (j : Fin 4) (hs)
    (inb : ∀ a, (![n.val, 8 * j.val, 0] : Fin 3 → ℕ) a + (![1, 8, 1024] : Fin 3 → ℕ) a ≤ S32x32x1024.size a) (pay : FVec Ideal S1x8x1024 .bf16)
    (hpay : pay = xePay (F := Ideal) (runA0.sl.r_1 c arg2 harg2 x1) n.val j.val hs) :
    ∀ x : (Rect.unit (s := S32x32x1024) ![n.val, 8 * j.val, 0] ![1, 8, 1024] inb).shape.Idx, pay x = xeG x1 ((Rect.unit (s := S32x32x1024) ![n.val, 8 * j.val, 0] ![1, 8, 1024] inb).emb x) := by
  intro x
  subst hpay
  obtain ⟨t, ht⟩ : ∃ t : Fin 8, t.val = (x 1).val := ⟨⟨(x 1).val, (x 1).isLt⟩, rfl⟩
  obtain ⟨r, hr⟩ : ∃ r : Fin 1024, r.val = (x 2).val := ⟨⟨(x 2).val, (x 2).isLt⟩, rfl⟩
  have h0 : (x 0).val = 0 := by have : (x 0).val < 1 := (x 0).isLt; omega
  have hx : x = (ix3 0 t r : S1x8x1024.Idx) := by
    funext a
    match a with
    | ⟨0, _⟩ => exact Fin.ext h0
    | ⟨1, _⟩ => exact Fin.ext ht.symm
    | ⟨2, _⟩ => exact Fin.ext hr.symm
  refine (congrArg _ hx).trans ((xePay_at c arg2 harg2 x1 n j hs t r).trans ?_)
  have e0 : ((Rect.unit (s := S32x32x1024) ![n.val, 8 * j.val, 0] ![1, 8, 1024] inb).emb x 0).val = n.val := by show n.val + 1 * (x 0).val = n.val; omega
  have e1 : ((Rect.unit (s := S32x32x1024) ![n.val, 8 * j.val, 0] ![1, 8, 1024] inb).emb x 1).val = 8 * j.val + t.val := by show 8 * j.val + 1 * (x 1).val = 8 * j.val + t.val; omega
  have e2 : ((Rect.unit (s := S32x32x1024) ![n.val, 8 * j.val, 0] ![1, 8, 1024] inb).emb x 2).val = r.val := by show 0 + 1 * (x 2).val = r.val; omega
  unfold xeG
  rw [show ((Rect.unit (s := S32x32x1024) ![n.val, 8 * j.val, 0] ![1, 8, 1024] inb).emb x 1).val / 8 = j.val from by omega]
  by_cases h : r.val % 8 / 2 = j.val
  · rw [if_pos h, if_pos (by rw [e2]; exact h)]
    refine congrArg x1 ((ix2_inj ..).2 ⟨Fin.ext ?_, Fin.ext ?_⟩)
    · show t.val = ((Rect.unit (s := S32x32x1024) ![n.val, 8 * j.val, 0] ![1, 8, 1024] inb).emb x 1).val % 8
      omega
    · show _ = 4096 * (((Rect.unit (s := S32x32x1024) ![n.val, 8 * j.val, 0] ![1, 8, 1024] inb).emb x 2).val % 2) + 128 * ((Rect.unit (s := S32x32x1024) ![n.val, 8 * j.val, 0] ![1, 8, 1024] inb).emb x 0).val + ((Rect.unit (s := S32x32x1024) ![n.val, 8 * j.val, 0] ![1, 8, 1024] inb).emb x 2).val / 8
      rw [e0, e2]
  · rw [if_neg h, if_neg (by rw [e2]; exact h)]

/-- What the spread activations' scratch reads after the first point. -/
theorem read_xe (c : Dev nD) (i : grid0.Coords) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (hc0 : cond0_0 i) (x0 : Vec Ideal S1 .f32) (x1 : Vec Ideal S8x8192 .bf16) (x2 : Vec Ideal S22x2x128 .f32) (x3 : Vec Ideal S1024x4096 .i8) (x4 : Vec Ideal S1024x128 .i8) (f7 : BufTy.Contents (Elt Ideal) arg7.view.ty) (f : BufTy.Contents (Elt Ideal) arg7.view.ty) (y : S32x32x1024.Idx) :
    arg7.view.read (Elt Ideal) (arg7.view.writes (Elt Ideal) f (runA0 (F := Ideal) c i arg1 harg1 arg2 harg2 arg3 harg3 arg4 harg4 arg5 harg5 arg6 harg6 arg7 harg7 arg8 harg8 arg9 harg9 hc0 x0 x1 x2 x3 x4 f7).1.1) y = xeG x1 y := by
  refine read_writes_agree arg7.view f (xeG x1) y _ ?_ (scoverA c i arg1 harg1 arg2 harg2 arg3 harg3 arg4 harg4 arg5 harg5 arg6 harg6 arg7 harg7 arg8 harg8 arg9 harg9 hc0 x0 x1 x2 x3 x4 f7 y)
  dsimp only [runA0]
  simp only [List.forall_mem_cons]
  exact ⟨
    xpiece_agree c arg2 harg2 x1 31 3 slices_S256x1024_o248_0_S8x1024 _ _ rfl, xpiece_agree c arg2 harg2 x1 31 2 slices_S256x1024_o248_0_S8x1024 _ _ rfl, xpiece_agree c arg2 harg2 x1 31 1 slices_S256x1024_o248_0_S8x1024 _ _ rfl, xpiece_agree c arg2 harg2 x1 31 0 slices_S256x1024_o248_0_S8x1024 _ _ rfl,
    xpiece_agree c arg2 harg2 x1 30 3 slices_S256x1024_o240_0_S8x1024 _ _ rfl, xpiece_agree c arg2 harg2 x1 30 2 slices_S256x1024_o240_0_S8x1024 _ _ rfl, xpiece_agree c arg2 harg2 x1 30 1 slices_S256x1024_o240_0_S8x1024 _ _ rfl, xpiece_agree c arg2 harg2 x1 30 0 slices_S256x1024_o240_0_S8x1024 _ _ rfl,
    xpiece_agree c arg2 harg2 x1 29 3 slices_S256x1024_o232_0_S8x1024 _ _ rfl, xpiece_agree c arg2 harg2 x1 29 2 slices_S256x1024_o232_0_S8x1024 _ _ rfl, xpiece_agree c arg2 harg2 x1 29 1 slices_S256x1024_o232_0_S8x1024 _ _ rfl, xpiece_agree c arg2 harg2 x1 29 0 slices_S256x1024_o232_0_S8x1024 _ _ rfl,
    xpiece_agree c arg2 harg2 x1 28 3 slices_S256x1024_o224_0_S8x1024 _ _ rfl, xpiece_agree c arg2 harg2 x1 28 2 slices_S256x1024_o224_0_S8x1024 _ _ rfl, xpiece_agree c arg2 harg2 x1 28 1 slices_S256x1024_o224_0_S8x1024 _ _ rfl, xpiece_agree c arg2 harg2 x1 28 0 slices_S256x1024_o224_0_S8x1024 _ _ rfl,
    xpiece_agree c arg2 harg2 x1 27 3 slices_S256x1024_o216_0_S8x1024 _ _ rfl, xpiece_agree c arg2 harg2 x1 27 2 slices_S256x1024_o216_0_S8x1024 _ _ rfl, xpiece_agree c arg2 harg2 x1 27 1 slices_S256x1024_o216_0_S8x1024 _ _ rfl, xpiece_agree c arg2 harg2 x1 27 0 slices_S256x1024_o216_0_S8x1024 _ _ rfl,
    xpiece_agree c arg2 harg2 x1 26 3 slices_S256x1024_o208_0_S8x1024 _ _ rfl, xpiece_agree c arg2 harg2 x1 26 2 slices_S256x1024_o208_0_S8x1024 _ _ rfl, xpiece_agree c arg2 harg2 x1 26 1 slices_S256x1024_o208_0_S8x1024 _ _ rfl, xpiece_agree c arg2 harg2 x1 26 0 slices_S256x1024_o208_0_S8x1024 _ _ rfl,
    xpiece_agree c arg2 harg2 x1 25 3 slices_S256x1024_o200_0_S8x1024 _ _ rfl, xpiece_agree c arg2 harg2 x1 25 2 slices_S256x1024_o200_0_S8x1024 _ _ rfl, xpiece_agree c arg2 harg2 x1 25 1 slices_S256x1024_o200_0_S8x1024 _ _ rfl, xpiece_agree c arg2 harg2 x1 25 0 slices_S256x1024_o200_0_S8x1024 _ _ rfl,
    xpiece_agree c arg2 harg2 x1 24 3 slices_S256x1024_o192_0_S8x1024 _ _ rfl, xpiece_agree c arg2 harg2 x1 24 2 slices_S256x1024_o192_0_S8x1024 _ _ rfl, xpiece_agree c arg2 harg2 x1 24 1 slices_S256x1024_o192_0_S8x1024 _ _ rfl, xpiece_agree c arg2 harg2 x1 24 0 slices_S256x1024_o192_0_S8x1024 _ _ rfl,
    xpiece_agree c arg2 harg2 x1 23 3 slices_S256x1024_o184_0_S8x1024 _ _ rfl, xpiece_agree c arg2 harg2 x1 23 2 slices_S256x1024_o184_0_S8x1024 _ _ rfl, xpiece_agree c arg2 harg2 x1 23 1 slices_S256x1024_o184_0_S8x1024 _ _ rfl, xpiece_agree c arg2 harg2 x1 23 0 slices_S256x1024_o184_0_S8x1024 _ _ rfl,
    xpiece_agree c arg2 harg2 x1 22 3 slices_S256x1024_o176_0_S8x1024 _ _ rfl, xpiece_agree c arg2 harg2 x1 22 2 slices_S256x1024_o176_0_S8x1024 _ _ rfl, xpiece_agree c arg2 harg2 x1 22 1 slices_S256x1024_o176_0_S8x1024 _ _ rfl, xpiece_agree c arg2 harg2 x1 22 0 slices_S256x1024_o176_0_S8x1024 _ _ rfl,
    xpiece_agree c arg2 harg2 x1 21 3 slices_S256x1024_o168_0_S8x1024 _ _ rfl, xpiece_agree c arg2 harg2 x1 21 2 slices_S256x1024_o168_0_S8x1024 _ _ rfl, xpiece_agree c arg2 harg2 x1 21 1 slices_S256x1024_o168_0_S8x1024 _ _ rfl, xpiece_agree c arg2 harg2 x1 21 0 slices_S256x1024_o168_0_S8x1024 _ _ rfl,
    xpiece_agree c arg2 harg2 x1 20 3 slices_S256x1024_o160_0_S8x1024 _ _ rfl, xpiece_agree c arg2 harg2 x1 20 2 slices_S256x1024_o160_0_S8x1024 _ _ rfl, xpiece_agree c arg2 harg2 x1 20 1 slices_S256x1024_o160_0_S8x1024 _ _ rfl, xpiece_agree c arg2 harg2 x1 20 0 slices_S256x1024_o160_0_S8x1024 _ _ rfl,
    xpiece_agree c arg2 harg2 x1 19 3 slices_S256x1024_o152_0_S8x1024 _ _ rfl, xpiece_agree c arg2 harg2 x1 19 2 slices_S256x1024_o152_0_S8x1024 _ _ rfl, xpiece_agree c arg2 harg2 x1 19 1 slices_S256x1024_o152_0_S8x1024 _ _ rfl, xpiece_agree c arg2 harg2 x1 19 0 slices_S256x1024_o152_0_S8x1024 _ _ rfl,
    xpiece_agree c arg2 harg2 x1 18 3 slices_S256x1024_o144_0_S8x1024 _ _ rfl, xpiece_agree c arg2 harg2 x1 18 2 slices_S256x1024_o144_0_S8x1024 _ _ rfl, xpiece_agree c arg2 harg2 x1 18 1 slices_S256x1024_o144_0_S8x1024 _ _ rfl, xpiece_agree c arg2 harg2 x1 18 0 slices_S256x1024_o144_0_S8x1024 _ _ rfl,
    xpiece_agree c arg2 harg2 x1 17 3 slices_S256x1024_o136_0_S8x1024 _ _ rfl, xpiece_agree c arg2 harg2 x1 17 2 slices_S256x1024_o136_0_S8x1024 _ _ rfl, xpiece_agree c arg2 harg2 x1 17 1 slices_S256x1024_o136_0_S8x1024 _ _ rfl, xpiece_agree c arg2 harg2 x1 17 0 slices_S256x1024_o136_0_S8x1024 _ _ rfl,
    xpiece_agree c arg2 harg2 x1 16 3 slices_S256x1024_o128_0_S8x1024 _ _ rfl, xpiece_agree c arg2 harg2 x1 16 2 slices_S256x1024_o128_0_S8x1024 _ _ rfl, xpiece_agree c arg2 harg2 x1 16 1 slices_S256x1024_o128_0_S8x1024 _ _ rfl, xpiece_agree c arg2 harg2 x1 16 0 slices_S256x1024_o128_0_S8x1024 _ _ rfl,
    xpiece_agree c arg2 harg2 x1 15 3 slices_S256x1024_o120_0_S8x1024 _ _ rfl, xpiece_agree c arg2 harg2 x1 15 2 slices_S256x1024_o120_0_S8x1024 _ _ rfl, xpiece_agree c arg2 harg2 x1 15 1 slices_S256x1024_o120_0_S8x1024 _ _ rfl, xpiece_agree c arg2 harg2 x1 15 0 slices_S256x1024_o120_0_S8x1024 _ _ rfl,
    xpiece_agree c arg2 harg2 x1 14 3 slices_S256x1024_o112_0_S8x1024 _ _ rfl, xpiece_agree c arg2 harg2 x1 14 2 slices_S256x1024_o112_0_S8x1024 _ _ rfl, xpiece_agree c arg2 harg2 x1 14 1 slices_S256x1024_o112_0_S8x1024 _ _ rfl, xpiece_agree c arg2 harg2 x1 14 0 slices_S256x1024_o112_0_S8x1024 _ _ rfl,
    xpiece_agree c arg2 harg2 x1 13 3 slices_S256x1024_o104_0_S8x1024 _ _ rfl, xpiece_agree c arg2 harg2 x1 13 2 slices_S256x1024_o104_0_S8x1024 _ _ rfl, xpiece_agree c arg2 harg2 x1 13 1 slices_S256x1024_o104_0_S8x1024 _ _ rfl, xpiece_agree c arg2 harg2 x1 13 0 slices_S256x1024_o104_0_S8x1024 _ _ rfl,
    xpiece_agree c arg2 harg2 x1 12 3 slices_S256x1024_o96_0_S8x1024 _ _ rfl, xpiece_agree c arg2 harg2 x1 12 2 slices_S256x1024_o96_0_S8x1024 _ _ rfl, xpiece_agree c arg2 harg2 x1 12 1 slices_S256x1024_o96_0_S8x1024 _ _ rfl, xpiece_agree c arg2 harg2 x1 12 0 slices_S256x1024_o96_0_S8x1024 _ _ rfl,
    xpiece_agree c arg2 harg2 x1 11 3 slices_S256x1024_o88_0_S8x1024 _ _ rfl, xpiece_agree c arg2 harg2 x1 11 2 slices_S256x1024_o88_0_S8x1024 _ _ rfl, xpiece_agree c arg2 harg2 x1 11 1 slices_S256x1024_o88_0_S8x1024 _ _ rfl, xpiece_agree c arg2 harg2 x1 11 0 slices_S256x1024_o88_0_S8x1024 _ _ rfl,
    xpiece_agree c arg2 harg2 x1 10 3 slices_S256x1024_o80_0_S8x1024 _ _ rfl, xpiece_agree c arg2 harg2 x1 10 2 slices_S256x1024_o80_0_S8x1024 _ _ rfl, xpiece_agree c arg2 harg2 x1 10 1 slices_S256x1024_o80_0_S8x1024 _ _ rfl, xpiece_agree c arg2 harg2 x1 10 0 slices_S256x1024_o80_0_S8x1024 _ _ rfl,
    xpiece_agree c arg2 harg2 x1 9 3 slices_S256x1024_o72_0_S8x1024 _ _ rfl, xpiece_agree c arg2 harg2 x1 9 2 slices_S256x1024_o72_0_S8x1024 _ _ rfl, xpiece_agree c arg2 harg2 x1 9 1 slices_S256x1024_o72_0_S8x1024 _ _ rfl, xpiece_agree c arg2 harg2 x1 9 0 slices_S256x1024_o72_0_S8x1024 _ _ rfl,
    xpiece_agree c arg2 harg2 x1 8 3 slices_S256x1024_o64_0_S8x1024 _ _ rfl, xpiece_agree c arg2 harg2 x1 8 2 slices_S256x1024_o64_0_S8x1024 _ _ rfl, xpiece_agree c arg2 harg2 x1 8 1 slices_S256x1024_o64_0_S8x1024 _ _ rfl, xpiece_agree c arg2 harg2 x1 8 0 slices_S256x1024_o64_0_S8x1024 _ _ rfl,
    xpiece_agree c arg2 harg2 x1 7 3 slices_S256x1024_o56_0_S8x1024 _ _ rfl, xpiece_agree c arg2 harg2 x1 7 2 slices_S256x1024_o56_0_S8x1024 _ _ rfl, xpiece_agree c arg2 harg2 x1 7 1 slices_S256x1024_o56_0_S8x1024 _ _ rfl, xpiece_agree c arg2 harg2 x1 7 0 slices_S256x1024_o56_0_S8x1024 _ _ rfl,
    xpiece_agree c arg2 harg2 x1 6 3 slices_S256x1024_o48_0_S8x1024 _ _ rfl, xpiece_agree c arg2 harg2 x1 6 2 slices_S256x1024_o48_0_S8x1024 _ _ rfl, xpiece_agree c arg2 harg2 x1 6 1 slices_S256x1024_o48_0_S8x1024 _ _ rfl, xpiece_agree c arg2 harg2 x1 6 0 slices_S256x1024_o48_0_S8x1024 _ _ rfl,
    xpiece_agree c arg2 harg2 x1 5 3 slices_S256x1024_o40_0_S8x1024 _ _ rfl, xpiece_agree c arg2 harg2 x1 5 2 slices_S256x1024_o40_0_S8x1024 _ _ rfl, xpiece_agree c arg2 harg2 x1 5 1 slices_S256x1024_o40_0_S8x1024 _ _ rfl, xpiece_agree c arg2 harg2 x1 5 0 slices_S256x1024_o40_0_S8x1024 _ _ rfl,
    xpiece_agree c arg2 harg2 x1 4 3 slices_S256x1024_o32_0_S8x1024 _ _ rfl, xpiece_agree c arg2 harg2 x1 4 2 slices_S256x1024_o32_0_S8x1024 _ _ rfl, xpiece_agree c arg2 harg2 x1 4 1 slices_S256x1024_o32_0_S8x1024 _ _ rfl, xpiece_agree c arg2 harg2 x1 4 0 slices_S256x1024_o32_0_S8x1024 _ _ rfl,
    xpiece_agree c arg2 harg2 x1 3 3 slices_S256x1024_o24_0_S8x1024 _ _ rfl, xpiece_agree c arg2 harg2 x1 3 2 slices_S256x1024_o24_0_S8x1024 _ _ rfl, xpiece_agree c arg2 harg2 x1 3 1 slices_S256x1024_o24_0_S8x1024 _ _ rfl, xpiece_agree c arg2 harg2 x1 3 0 slices_S256x1024_o24_0_S8x1024 _ _ rfl,
    xpiece_agree c arg2 harg2 x1 2 3 slices_S256x1024_o16_0_S8x1024 _ _ rfl, xpiece_agree c arg2 harg2 x1 2 2 slices_S256x1024_o16_0_S8x1024 _ _ rfl, xpiece_agree c arg2 harg2 x1 2 1 slices_S256x1024_o16_0_S8x1024 _ _ rfl, xpiece_agree c arg2 harg2 x1 2 0 slices_S256x1024_o16_0_S8x1024 _ _ rfl,
    xpiece_agree c arg2 harg2 x1 1 3 slices_S256x1024_o8_0_S8x1024 _ _ rfl, xpiece_agree c arg2 harg2 x1 1 2 slices_S256x1024_o8_0_S8x1024 _ _ rfl, xpiece_agree c arg2 harg2 x1 1 1 slices_S256x1024_o8_0_S8x1024 _ _ rfl, xpiece_agree c arg2 harg2 x1 1 0 slices_S256x1024_o8_0_S8x1024 _ _ rfl,
    xpiece_agree c arg2 harg2 x1 0 3 slices_S256x1024_o0_0_S8x1024 _ _ rfl, xpiece_agree c arg2 harg2 x1 0 2 slices_S256x1024_o0_0_S8x1024 _ _ rfl, xpiece_agree c arg2 harg2 x1 0 1 slices_S256x1024_o0_0_S8x1024 _ _ rfl, xpiece_agree c arg2 harg2 x1 0 0 slices_S256x1024_o0_0_S8x1024 _ _ rfl,
    fun p hp => absurd hp List.not_mem_nil⟩

/-- The spread activations, by their entries. -/
theorem XE_at (m : (ℓ : Loc nD τ sig) → Buf (Elt Ideal) ℓ) (c : Dev nD) (y : S32x32x1024.Idx) : XE m c y = xeG (iblk m c 1 t0) y := by
  unfold XE
  exact read_xe c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) condA (iblk m c 0 t0) (iblk m c 1 t0) (iblk m c 2 t0) (iblk m c 3 t0) (iblk m c 4 t0) _ _ y
end Cert.KernelIdeal.Hand
-- ==== Proof.Rows.lean ====
module

public import proofs.«01_k».proof.Proof.Expand

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## A row of the result, as a sum over the packed columns -/

/-- The spread activations against any weights of the rows: only the row of the word the token's copy belongs to is left. -/
theorem spread_sum (x1 : Vec Ideal S8x8192 .bf16) (g : Fin 1024 → Fin 4096 → Fin 2 → EReal) (n : Fin 256) (j : Fin 4) (t : Fin 8) :
    ∑ c : Fin 32, ∑ r : Fin 1024, xeG x1 (ix3 c (⟨8 * j.val + t.val, by omega⟩ : Fin 32) r) * g ⟨4 * n.val + r.val % 8 / 2, by omega⟩ ⟨128 * c.val + r.val / 8, by omega⟩ ⟨r.val % 2, by omega⟩
      = ∑ κ : Fin 4096, ∑ h : Fin 2, x1 (ix2 t ⟨4096 * h.val + κ.val, by omega⟩) * g ⟨4 * n.val + j.val, by omega⟩ κ h := by
  refine Eq.trans ?_ (Fin.sum_univ_tiles 32 128 rfl fun κ : Fin 4096 => ∑ h : Fin 2, x1 (ix2 t ⟨4096 * h.val + κ.val, by omega⟩) * g ⟨4 * n.val + j.val, by omega⟩ κ h).symm
  refine Finset.sum_congr rfl fun c _ => ?_
  refine (Fin.sum_univ_tiles 128 8 rfl fun r : Fin 1024 => xeG x1 (ix3 c (⟨8 * j.val + t.val, by omega⟩ : Fin 32) r) * g ⟨4 * n.val + r.val % 8 / 2, by omega⟩ ⟨128 * c.val + r.val / 8, by omega⟩ ⟨r.val % 2, by omega⟩).trans ?_
  refine Finset.sum_congr rfl fun k _ => ?_
  refine (Fin.sum_univ_tiles 4 2 rfl fun e : Fin 8 => xeG x1 (ix3 c (⟨8 * j.val + t.val, by omega⟩ : Fin 32) (⟨k.val * 8 + e.val, by omega⟩ : Fin 1024)) * g ⟨4 * n.val + (k.val * 8 + e.val) % 8 / 2, by omega⟩ ⟨128 * c.val + (k.val * 8 + e.val) / 8, by omega⟩ ⟨(k.val * 8 + e.val) % 2, by omega⟩).trans ?_
  rw [Finset.sum_eq_single j]
  · refine Finset.sum_congr rfl fun h _ => ?_
    refine congrArg₂ (fun x y : EReal => x * y) ?_ ?_
    · unfold xeG
      refine (if_pos ?_).trans (congrArg x1 ((ix2_inj ..).2 ⟨Fin.ext ?_, Fin.ext ?_⟩))
      · show (k.val * 8 + (j.val * 2 + h.val)) % 8 / 2 = (8 * j.val + t.val) / 8
        omega
      · show (8 * j.val + t.val) % 8 = t.val
        omega
      · show 4096 * ((k.val * 8 + (j.val * 2 + h.val)) % 2) + 128 * c.val + (k.val * 8 + (j.val * 2 + h.val)) / 8 = 4096 * h.val + (c.val * 128 + k.val)
        omega
    · rw [show (⟨4 * n.val + (k.val * 8 + (j.val * 2 + h.val)) % 8 / 2, by omega⟩ : Fin 1024) = ⟨4 * n.val + j.val, by omega⟩ from Fin.ext (by dsimp only; omega),
        show (⟨128 * c.val + (k.val * 8 + (j.val * 2 + h.val)) / 8, by omega⟩ : Fin 4096) = ⟨c.val * 128 + k.val, by omega⟩ from Fin.ext (by dsimp only; omega),
        show (⟨(k.val * 8 + (j.val * 2 + h.val)) % 2, by omega⟩ : Fin 2) = h from Fin.ext (by dsimp only; omega)]
  · intro j' _ hj
    refine Finset.sum_eq_zero fun h _ => ?_
    unfold xeG
    rw [if_neg, zero_mul]
    intro e
    refine hj (Fin.ext ?_)
    have e' : (k.val * 8 + (j'.val * 2 + h.val)) % 8 / 2 = (8 * j.val + t.val) / 8 := e
    omega
  · exact fun h => absurd (Finset.mem_univ j) h

theorem perm_col : ∀ (k q : Fin 512), IntOp.cmpi .eq (BitVec.ofNat 32 q.val) (IntOp.addi (IntOp.muli (IntOp.andi (BitVec.ofNat 32 k.val) 127#32) 4#32) (IntOp.shrsi .vector (BitVec.ofNat 32 k.val) 7#32))
    = BitVec.ofBool (decide (k.val = 128 * (q.val % 4) + q.val / 4)) := by
  intro k q
  have h : IntOp.addi (IntOp.muli (IntOp.andi (BitVec.ofNat 32 k.val) 127#32) 4#32) (IntOp.shrsi .vector (BitVec.ofNat 32 k.val) 7#32) = BitVec.ofNat 32 (k.val % 128 * 4 + k.val / 128) :=
    (by decide +kernel : ∀ k : Fin 512, IntOp.addi (IntOp.muli (IntOp.andi (BitVec.ofNat 32 k.val) 127#32) 4#32) (IntOp.shrsi .vector (BitVec.ofNat 32 k.val) 7#32) = BitVec.ofNat 32 (k.val % 128 * 4 + k.val / 128)) k
  rw [h]
  refine congrArg BitVec.ofBool ?_
  show decide (BitVec.ofNat 32 q.val = BitVec.ofNat 32 (k.val % 128 * 4 + k.val / 128)) = _
  refine decide_eq_decide.mpr ⟨fun e => ?_, fun e => congrArg _ (by omega)⟩
  have e' := congrArg BitVec.toNat e
  rw [BitVec.toNat_ofNat, BitVec.toNat_ofNat, Nat.mod_eq_of_lt (by omega), Nat.mod_eq_of_lt (by omega)] at e'
  omega

/-- The last dot puts the rows of a block in their order. -/
theorem outAt_at (V : Vec Ideal S22x8x512 .bf16) (t : Fin 8) (n : Fin 11264) :
    outAt (F := Ideal) V (ix2 t n) = V (ix3 ⟨n.val / 512, by omega⟩ t ⟨128 * (n.val % 4) + n.val % 512 / 4, by omega⟩) := by
  show k0_pay413 (F := Ideal) V (ix2 (⟨8 * (n.val / 512) + t.val, by omega⟩ : Fin 176) (⟨n.val % 512, by omega⟩ : Fin 512)) = _
  obtain ⟨a, ha⟩ : ∃ a : Fin 176, a.val = 8 * (n.val / 512) + t.val := ⟨⟨_, by omega⟩, rfl⟩
  obtain ⟨q, hq⟩ : ∃ q : Fin 512, q.val = n.val % 512 := ⟨⟨_, by omega⟩, rfl⟩
  rw [show (⟨8 * (n.val / 512) + t.val, by omega⟩ : Fin 176) = a from Fin.ext ha.symm, show (⟨n.val % 512, by omega⟩ : Fin 512) = q from Fin.ext hq.symm]
  refine Eq.trans (b := ∑ k : Fin 512, V (ix3 ⟨a.val / 8, by omega⟩ ⟨a.val % 8, by omega⟩ k) * (if decide (k.val = 128 * (q.val % 4) + q.val / 4) then 1 else 0)) ?_ ?_
  · refine Eq.trans (b := ∑ k : Fin 512, V (ix3 ⟨a.val / 8, by omega⟩ ⟨a.val % 8, by omega⟩ k) * FloatOps.sitofp (F := Ideal) .f32 (BitVec.setWidth 32 (IntOp.cmpi .eq (BitVec.ofNat 32 q.val) (IntOp.addi (IntOp.muli (IntOp.andi (BitVec.ofNat 32 k.val) 127#32) 4#32) (IntOp.shrsi .vector (BitVec.ofNat 32 k.val) 7#32))))) ?_ ?_
    · pointwise [k0_pay413]
    · refine Finset.sum_congr rfl fun k _ => congrArg _ ?_
      rw [perm_col, bit_real]
  · refine (sum_pick _ _ ⟨128 * (q.val % 4) + q.val / 4, by omega⟩ fun a => decide_eq_decide.mpr ⟨fun e => Fin.ext e, fun e => congrArg Fin.val e⟩).trans ?_
    refine congrArg V ((ix3_inj ..).2 ⟨Fin.ext ?_, Fin.ext ?_, Fin.ext ?_⟩) <;> dsimp only <;> omega

variable (m : (ℓ : Loc nD τ sig) → Buf (Elt Ideal) ℓ)

/-- The blocks a point reads, at the types they have. -/
def B0 (c : Dev nD) (p : Fin cfg0.N) : Vec Ideal S1 .f32 := iblk m c 0 p
def B1 (c : Dev nD) (p : Fin cfg0.N) : Vec Ideal S8x8192 .bf16 := iblk m c 1 p
def B2 (c : Dev nD) (p : Fin cfg0.N) : Vec Ideal S22x2x128 .f32 := iblk m c 2 p
def B3 (c : Dev nD) (p : Fin cfg0.N) : Vec Ideal S1024x4096 .i8 := iblk m c 3 p
def B4 (c : Dev nD) (p : Fin cfg0.N) : Vec Ideal S1024x128 .i8 := iblk m c 4 p

/-- Copy `j` of token `t` and word `n` of the accumulator hold the product for row `4n + j` of the rows. -/
theorem accV_spread (c : Dev nD) (i : grid0.Coords) (p : Fin 11) (hp : (i 0).val = p.val) (arg1 : Memref sig .tc .smem S1 .f32) (harg1 : arg1.IsWhole) (arg2 : Memref sig .tc .vmem S8x8192 .bf16) (harg2 : arg2.IsWhole) (arg3 : Memref sig .tc .vmem S22x2x128 .f32) (harg3 : arg3.IsWhole) (arg4 : Memref sig .tc .vmem S1024x4096 .i8) (harg4 : arg4.IsWhole) (arg5 : Memref sig .tc .vmem S1024x128 .i8) (harg5 : arg5.IsWhole) (arg6 : Memref sig .tc .vmem S8x11264 .bf16) (harg6 : arg6.IsWhole) (arg7 : Memref sig .tc .vmem S32x32x1024 .bf16) (harg7 : arg7.IsWhole) (arg8 : Memref sig .tc .vmem S2x64x8x2x128 .bf16) (harg8 : arg8.IsWhole) (arg9 : Memref sig .tc .vmem S22x8x512 .bf16) (harg9 : arg9.IsWhole) (x0 : Vec Ideal S1 .f32) (x1 : Vec Ideal S8x8192 .bf16) (x2 : Vec Ideal S22x2x128 .f32) (x3 : Vec Ideal S1024x4096 .i8) (x4 : Vec Ideal S1024x128 .i8) (xs : Vec Ideal S32x32x1024 .bf16)
    (hxs : ∀ y, xs y = xeG x1 y) (n : Fin 256) (j : Fin 4) (t : Fin 8) :
    accV (F := Ideal) c i arg1 harg1 arg2 harg2 arg3 harg3 arg4 harg4 arg5 harg5 arg6 harg6 arg7 harg7 arg8 harg8 arg9 harg9 x0 x2 x3 x4 (harg7.unread xs) (ix2 (⟨8 * j.val + t.val, by omega⟩ : Fin 32) n) = ∑ κ : Fin 4096, ∑ h : Fin 2, x1 (ix2 t (⟨4096 * h.val + κ.val, by omega⟩ : Fin 8192))
      * wAt (x0 (ix1 0)) x2 x3 x4 p ⟨4 * n.val + j.val, by omega⟩ κ h := by
  refine (accV_at c i (lt_of_eq_of_lt hp p.isLt) arg1 harg1 arg2 harg2 arg3 harg3 arg4 harg4 arg5 harg5 arg6 harg6 arg7 harg7 arg8 harg8 arg9 harg9 x0 x2 x3 x4 xs _ n).trans ?_
  refine Eq.trans ?_ (spread_sum x1 (fun R κ h => wAt (x0 (ix1 0)) x2 x3 x4 p R κ h) n j t)
  refine Finset.sum_congr rfl fun c' _ => Finset.sum_congr rfl fun r _ => ?_
  rw [hxs, show (⟨(i 0).val, lt_of_eq_of_lt hp p.isLt⟩ : Fin 11) = p from Fin.ext hp]

/-- A point's accumulator: copy `j` of token `t` and word `n` hold the product for row `4n + j` of the point's rows. -/
theorem acc_at (c : Dev nD) (p : Fin cfg0.N) (p' : Fin 11) (hp : p.val = p'.val) (n : Fin 256) (j : Fin 4) (t : Fin 8) :
    acc m c p (ix2 (⟨8 * j.val + t.val, by omega⟩ : Fin 32) n) = ∑ κ : Fin 4096, ∑ h : Fin 2, B1 m c t0 (ix2 t (⟨4096 * h.val + κ.val, by omega⟩ : Fin 8192))
      * wAt (B0 m c p (ix1 0)) (B2 m c p) (B3 m c p) (B4 m c p) p' ⟨4 * n.val + j.val, by omega⟩ κ h := by
  unfold acc
  exact accV_spread c (grid0.coords p) p' ((coord0 p).trans hp) (ms0_0 p) (hs0_0 p) (ms0_1 p) (hs0_1 p) (ms0_2 p) (hs0_2 p) (ms0_3 p) (hs0_3 p) (ms0_4 p) (hs0_4 p) (ms0_5 p) (hs0_5 p) scM0_0 (Memref.isWhole_whole _) scM0_1 (Memref.isWhole_whole _) scM0_2 (Memref.isWhole_whole _) (B0 m c p) (B1 m c t0) (B2 m c p) (B3 m c p) (B4 m c p) (XE m c) (XE_at m c) n j t

/-- The whole result the last point writes, entry by entry. -/
theorem out_at (c : Dev nD) (t : Fin 8) (n : Fin 11264) :
    outAt (F := Ideal) (Zval m c) (ix2 t n) = ∑ κ : Fin 4096, ∑ h : Fin 2, B1 m c t0 (ix2 t (⟨4096 * h.val + κ.val, by omega⟩ : Fin 8192))
      * wAt (B0 m c (⟨n.val / 1024, by omega⟩ : Fin 11) (ix1 0)) (B2 m c (⟨n.val / 1024, by omega⟩ : Fin 11)) (B3 m c (⟨n.val / 1024, by omega⟩ : Fin 11)) (B4 m c (⟨n.val / 1024, by omega⟩ : Fin 11))
        ⟨n.val / 1024, by omega⟩ ⟨n.val % 1024, by omega⟩ κ h := by
  refine (outAt_at _ t n).trans ?_
  have h := acc_at m c (⟨n.val / 1024, by omega⟩ : Fin 11) ⟨n.val / 1024, by omega⟩ rfl ⟨(n.val / 512 % 2) * 128 + n.val % 512 / 4, by omega⟩ ⟨n.val % 4, by omega⟩ t
  rw [show (⟨4 * ((n.val / 512 % 2) * 128 + n.val % 512 / 4) + n.val % 4, by omega⟩ : Fin 1024) = ⟨n.val % 1024, by omega⟩ from Fin.ext (by dsimp only; omega)] at h
  refine Eq.trans (b := acc m c (⟨n.val / 512 / 2, by omega⟩ : Fin 11) (ix2 (⟨8 * ((128 * (n.val % 4) + n.val % 512 / 4) / 128) + t.val, by omega⟩ : Fin 32) (⟨n.val / 512 % 2 * 128 + (128 * (n.val % 4) + n.val % 512 / 4) % 128, by omega⟩ : Fin 256))) rfl (Eq.trans ?_ h)
  refine congr (congrArg (fun (p : Fin 11) => (acc m c p : S32x256.Idx → EReal)) (Fin.ext ?_)) ((ix2_inj ..).2 ⟨Fin.ext ?_, Fin.ext ?_⟩) <;> dsimp only <;> omega
end Cert.KernelIdeal.Hand
-- ==== Proof.Reference.lean ====
module

public import proofs.«01_k».proof.Proof.Gen.ReferenceIdeal.Run
public import proofs.«01_k».proof.Proof.Expand

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Value
open Cert.KernelIdeal.Hand (nf4 nf4b sum_pick)

variable {F : FTy → Type} [FloatOps F]

/-! ## The reference, entry by entry -/

/-- A constant word, at every packed byte. -/
def bcI (c : BitVec 32) : IVec S11264x4096 32 := broadcastInDim S11264x4096 ![] bcast_S_S11264x4096 (constantI S_ 32 c)

/-- A constant of the table, at every packed byte. -/
def bcF (c : BitVec 16) : FVec F S11264x4096 .bf16 := broadcastInDim S11264x4096 ![] bcast_S_S11264x4096 (constant S_ .bf16 c)

/-- The codes in the low halves of the packed bytes. -/
def codeLo (w : IVec S11264x4096 8) : IVec S11264x4096 32 := andi (extui 32 w natLt_8_32) (bcI 15#32)

/-- The codes in the high halves of the packed bytes. -/
def codeHi (w : IVec S11264x4096 8) : IVec S11264x4096 32 := Host.shrsi (extui 32 w natLt_8_32) (bcI 4#32)

/-- A code's bit. -/
def bitR (i : BitVec 32) (code : IVec S11264x4096 32) : IVec S11264x4096 1 := (cmpi .ne (andi (Host.shrsi code (bcI i)) (bcI 1#32)) (bcI 0#32))

/-- The table read at the codes. -/
def lookR (code : IVec S11264x4096 32) : FVec F S11264x4096 .bf16 :=
  select (bitR 3#32 code) (select (bitR 2#32 code) (select (bitR 1#32 code) (select (bitR 0#32 code) (bcF 0x3F80#16) (bcF 0x3F39#16)) (select (bitR 0#32 code) (bcF 0x3F10#16) (bcF 0x3EE2#16))) (select (bitR 1#32 code) (select (bitR 0#32 code) (bcF 0x3EAD#16) (bcF 0x3E7C#16)) (select (bitR 0#32 code) (bcF 0x3E25#16) (bcF 0x3DA3#16)))) (select (bitR 2#32 code) (select (bitR 1#32 code) (select (bitR 0#32 code) (bcF 0x0000#16) (bcF 0xBDBA#16)) (select (bitR 0#32 code) (bcF 0xBE3D#16) (bcF 0xBE92#16))) (select (bitR 1#32 code) (select (bitR 0#32 code) (bcF 0xBECA#16) (bcF 0xBF06#16)) (select (bitR 0#32 code) (bcF 0xBF32#16) (bcF 0xBF80#16))))

/-- The block scales. -/
def amR (codes : IVec S11264x128 8) (s : FVec F S5632 .f32) (off : FVec F S_ .f32) : FVec F S11264x128 .bf16 :=
  truncf .bf16 (shapeCast S11264x128 (addf (mulf (sitofp .f32 (extsi 32 (shapeCast S5632x256 codes shapeCasts_S11264x128_S5632x256) natLt_8_32)) (broadcastInDim S5632x256 ![0, 1] bcast_S5632x1_S5632x256_0_1 (broadcastInDim S5632x1 ![0] bcast_S5632_S5632x1_0 s)))
    (broadcastInDim S5632x256 ![] bcast_S_S5632x256 off)) shapeCasts_S5632x256_S11264x128) bitsLt_bf16_f32

/-- The packed columns' numbers. -/
def colR : IVec S1x4096 32 := broadcastInDim S1x4096 ![1] bcast_S4096_S1x4096_1 (iotaInDim S4096 32 0)

/-- Sixty-four. -/
def lenR : IVec S_ 32 := constantI S_ 32 64#32

/-- A column's number over sixty-four, rounded toward zero. -/
def quoR : IVec S1x4096 32 := Host.divsi colR (broadcastInDim S1x4096 ![] bcast_S_S1x4096 lenR)

/-- The number of a column's block. -/
def blockR : IVec S1x4096 32 :=
  select (andi (cmpi .ne (signi colR) (broadcastInDim S1x4096 ![] bcast_S_S1x4096 (signi lenR)))
      (cmpi .ne (Host.remsi colR (broadcastInDim S1x4096 ![] bcast_S_S1x4096 lenR)) (broadcastInDim S1x4096 ![] bcast_S_S1x4096 (constantI S_ 32 0#32))))
    (subi quoR (broadcastInDim S1x4096 ![] bcast_S_S1x4096 (constantI S_ 32 1#32))) quoR

/-- Ones where a column belongs to a block. -/
def hotR : FVec F S64x4096 .bf16 :=
  uitofp .bf16 (cmpi .eq (broadcastInDim S64x4096 ![0, 1] bcast_S1x4096_S64x4096_0_1 blockR) (broadcastInDim S64x4096 ![0, 1] bcast_S64x1_S64x4096_0_1 (broadcastInDim S64x1 ![0] bcast_S64_S64x1_0 (iotaInDim S64 32 0))))

/-- One half's weights. -/
def halfR (code : IVec S11264x4096 32) (am : FVec F S11264x64 .bf16) : FVec F S11264x4096 .bf16 :=
  mulf (lookR code) (truncf .bf16 (Host.dotGeneral dot_S11264x64_S64x4096_S11264x4096_1_0_0_1_n_n none am hotR) bitsLt_bf16_f32)

/-- The reference's product. -/
def outR (x : FVec F S8x1x8192 .bf16) (w : IVec S11264x4096 8) (codes : IVec S11264x128 8) (s : FVec F S5632 .f32) (off : FVec F S_ .f32) : FVec F S8x11264 .f32 :=
  addf (Host.dotGeneral dot_S8x4096_S11264x4096_S8x11264_1_1_0_0_n_n none (extractStridedSlice S8x4096 ![0, 0] (shapeCast S8x8192 x shapeCasts_S8x1x8192_S8x8192) slices_S8x8192_S8x4096_0_0)
      (halfR (codeLo w) (extractStridedSlice S11264x64 ![0, 0] (amR codes s off) slices_S11264x128_S11264x64_0_0)))
    (Host.dotGeneral dot_S8x4096_S11264x4096_S8x11264_1_1_0_0_n_n none (extractStridedSlice S8x4096 ![0, 4096] (shapeCast S8x8192 x shapeCasts_S8x1x8192_S8x8192) slices_S8x8192_S8x4096_0_4096)
      (halfR (codeHi w) (extractStridedSlice S11264x64 ![0, 64] (amR codes s off) slices_S11264x128_S11264x64_0_64)))

theorem res_eq (V0 : Valuation τ sig (Elt F)) :
    res_main_v132 V0 = outR (V0 (Proc.devRef .tc main_arg0)) (V0 (Proc.devRef .tc main_arg1)) (V0 (Proc.devRef .tc main_arg2)) (V0 (Proc.devRef .tc main_arg3)) (V0 (Proc.devRef .tc main_arg4)) := rfl

theorem low_bit : ∀ (b : Fin 256) (i : Fin 4), IntOp.cmpi .ne (IntOp.andi (IntOp.shrsi .host (IntOp.andi (BitVec.setWidth 32 (BitVec.ofFin (w := 8) b)) 15#32) (BitVec.ofNat 32 i.val)) 1#32) 0#32
    = BitVec.ofBool ((BitVec.ofFin (w := 8) b).getLsbD i.val) := by decide +kernel

theorem high_bit : ∀ (b : Fin 256) (i : Fin 4), IntOp.cmpi .ne (IntOp.andi (IntOp.shrsi .host (IntOp.shrsi .host (BitVec.setWidth 32 (BitVec.ofFin (w := 8) b)) 4#32) (BitVec.ofNat 32 i.val)) 1#32) 0#32
    = BitVec.ofBool ((BitVec.ofFin (w := 8) b).getLsbD (4 + i.val)) := by decide +kernel

theorem bitLo_at (w : IVec S11264x4096 8) (i : Fin 4) (n : Fin 11264) (k : Fin 4096) :
    bitR (BitVec.ofNat 32 i.val) (codeLo w) (ix2 n k) = BitVec.ofBool ((w (ix2 n k)).getLsbD i.val) := by
  refine Eq.trans ?_ (low_bit (w (ix2 n k)).toFin i)
  pointwise [bitR, codeLo, bcI]

theorem bitHi_at (w : IVec S11264x4096 8) (i : Fin 4) (n : Fin 11264) (k : Fin 4096) :
    bitR (BitVec.ofNat 32 i.val) (codeHi w) (ix2 n k) = BitVec.ofBool ((w (ix2 n k)).getLsbD (4 + i.val)) := by
  refine Eq.trans ?_ (high_bit (w (ix2 n k)).toFin i)
  pointwise [bitR, codeHi, bcI]

theorem look_at (code : IVec S11264x4096 32) (n : Fin 11264) (k : Fin 4096) (b0 b1 b2 b3 : Bool)
    (h0 : bitR 0#32 code (ix2 n k) = BitVec.ofBool b0) (h1 : bitR 1#32 code (ix2 n k) = BitVec.ofBool b1) (h2 : bitR 2#32 code (ix2 n k) = BitVec.ofBool b2) (h3 : bitR 3#32 code (ix2 n k) = BitVec.ofBool b3) :
    lookR (F := Ideal) code (ix2 n k) = nf4 b0 b1 b2 b3 := by
  unfold lookR
  simp only [select, h0, h1, h2, h3]
  unfold nf4
  cases b0 <;> cases b1 <;> cases b2 <;> cases b3 <;> rfl

theorem lookLo_at (w : IVec S11264x4096 8) (n : Fin 11264) (k : Fin 4096) : lookR (F := Ideal) (codeLo w) (ix2 n k) = nf4b (w (ix2 n k)) 0 :=
  look_at _ n k _ _ _ _ (bitLo_at w 0 n k) (bitLo_at w 1 n k) (bitLo_at w 2 n k) (bitLo_at w 3 n k)

theorem lookHi_at (w : IVec S11264x4096 8) (n : Fin 11264) (k : Fin 4096) : lookR (F := Ideal) (codeHi w) (ix2 n k) = nf4b (w (ix2 n k)) 1 :=
  look_at _ n k _ _ _ _ (bitHi_at w 0 n k) (bitHi_at w 1 n k) (bitHi_at w 2 n k) (bitHi_at w 3 n k)

theorem sitofp_extend (c : BitVec 8) : FloatOps.sitofp (F := Ideal) .f32 (BitVec.signExtend 32 c) = FloatOps.sitofp (F := Ideal) .f32 c :=
  congrArg (fun z : ℤ => ((z : ℝ) : EReal)) (BitVec.toInt_signExtend_of_le (by decide))

/-- A block's scale, by row and block. -/
theorem amR_at (codes : IVec S11264x128 8) (s : FVec Ideal S5632 .f32) (off : FVec Ideal S_ .f32) (n : Fin 11264) (b : Fin 128) :
    amR (F := Ideal) codes s off (ix2 n b) = FloatOps.sitofp (F := Ideal) .f32 (codes (ix2 n b) : BitVec 8) * s (ix1 ⟨n.val / 2, by omega⟩) + off ix0 := by
  rw [← sitofp_extend]
  pointwise [amR]

/-- A word's sign. -/
def signW (x : BitVec 32) : BitVec 32 := if x = 0 then 0 else if x.msb then -1 else 1

theorem block_val : ∀ k : Fin 4096, (Scalar.select (IntOp.andi (IntOp.cmpi .ne (signW (BitVec.ofNat 32 k.val)) (signW 64#32)) (IntOp.cmpi .ne (IntOp.remsi .host (BitVec.ofNat 32 k.val) 64#32) 0#32))
    (IntOp.subi (IntOp.divsi .host (BitVec.ofNat 32 k.val) 64#32) 1#32) (IntOp.divsi .host (BitVec.ofNat 32 k.val) 64#32)) = BitVec.ofNat 32 (k.val / 64) := by
  decide +kernel

theorem blockR_at (k : Fin 4096) : blockR (ix2 0 k) = BitVec.ofNat 32 (k.val / 64) := by
  refine Eq.trans ?_ (block_val k)
  rfl

theorem ubit_real (φ : FTy) (b : Bool) : FloatOps.uitofp (F := Ideal) φ (BitVec.ofBool b) = (if b then 1 else 0 : EReal) := by
  cases b
  · exact (congrArg (fun z : ℕ => ((z : ℝ) : EReal)) (by decide : (BitVec.ofBool false).toNat = 0)).trans (by simp)
  · exact (congrArg (fun z : ℕ => ((z : ℝ) : EReal)) (by decide : (BitVec.ofBool true).toNat = 1)).trans (by simp)

theorem hotR_at (b : Fin 64) (k : Fin 4096) : hotR (F := Ideal) (ix2 b k) = (if decide (b.val = k.val / 64) then 1 else 0 : EReal) := by
  have h := blockR_at k
  pointwise [hotR]
  rw [h]
  have e : IntOp.cmpi .eq (BitVec.ofNat 32 (k.val / 64)) (BitVec.ofNat 32 b.val) = BitVec.ofBool (decide (b.val = k.val / 64)) := by
    refine congrArg BitVec.ofBool ?_
    show decide (BitVec.ofNat 32 (k.val / 64) = BitVec.ofNat 32 b.val) = _
    refine decide_eq_decide.mpr ⟨fun e => ?_, fun e => congrArg _ e.symm⟩
    have e' := congrArg BitVec.toNat e
    rw [BitVec.toNat_ofNat, BitVec.toNat_ofNat, Nat.mod_eq_of_lt (by omega), Nat.mod_eq_of_lt (by omega)] at e'
    exact e'.symm
  rw [e]
  exact ubit_real .bf16 _

/-- A block's scale, spread over its columns. -/
theorem spread_at (am : FVec Ideal S11264x64 .bf16) (n : Fin 11264) (k : Fin 4096) :
    (Host.dotGeneral dot_S11264x64_S64x4096_S11264x4096_1_0_0_1_n_n none am (hotR (F := Ideal)) : FVec Ideal S11264x4096 .f32) (ix2 n k) = am (ix2 n ⟨k.val / 64, by omega⟩) := by
  refine Eq.trans (b := ∑ b : Fin 64, am (ix2 n b) * hotR (F := Ideal) (ix2 b k)) ?_ ?_
  · pointwise
  · refine (Finset.sum_congr rfl fun b _ => congrArg _ (hotR_at b k)).trans ?_
    exact sum_pick _ _ ⟨k.val / 64, by omega⟩ fun a => decide_eq_decide.mpr ⟨fun e => Fin.ext e, fun e => congrArg Fin.val e⟩

/-- One weight: the table's value at half `h` of packed column `k`, times the row's block scale. -/
def wR (w : IVec S11264x4096 8) (codes : IVec S11264x128 8) (s : FVec Ideal S5632 .f32) (off : FVec Ideal S_ .f32) (n : Fin 11264) (k : Fin 4096) (h : Fin 2) : EReal :=
  nf4b (w (ix2 n k)) h.val * (FloatOps.sitofp (F := Ideal) .f32 (codes (ix2 n ⟨64 * h.val + k.val / 64, by omega⟩) : BitVec 8) * s (ix1 ⟨n.val / 2, by omega⟩) + off ix0)

theorem halfLo_at (w : IVec S11264x4096 8) (codes : IVec S11264x128 8) (s : FVec Ideal S5632 .f32) (off : FVec Ideal S_ .f32) (n : Fin 11264) (k : Fin 4096) :
    halfR (F := Ideal) (codeLo w) (extractStridedSlice S11264x64 ![0, 0] (amR codes s off) slices_S11264x128_S11264x64_0_0) (ix2 n k) = wR w codes s off n k 0 := by
  refine Eq.trans (b := lookR (F := Ideal) (codeLo w) (ix2 n k) * (Host.dotGeneral dot_S11264x64_S64x4096_S11264x4096_1_0_0_1_n_n none (extractStridedSlice S11264x64 ![0, 0] (amR codes s off) slices_S11264x128_S11264x64_0_0) (hotR (F := Ideal)) : FVec Ideal S11264x4096 .f32) (ix2 n k)) rfl ?_
  rw [spread_at, lookLo_at]
  refine congrArg _ (Eq.trans ?_ (amR_at codes s off n ⟨64 * 0 + k.val / 64, by omega⟩))
  pointwise

theorem halfHi_at (w : IVec S11264x4096 8) (codes : IVec S11264x128 8) (s : FVec Ideal S5632 .f32) (off : FVec Ideal S_ .f32) (n : Fin 11264) (k : Fin 4096) :
    halfR (F := Ideal) (codeHi w) (extractStridedSlice S11264x64 ![0, 64] (amR codes s off) slices_S11264x128_S11264x64_0_64) (ix2 n k) = wR w codes s off n k 1 := by
  refine Eq.trans (b := lookR (F := Ideal) (codeHi w) (ix2 n k) * (Host.dotGeneral dot_S11264x64_S64x4096_S11264x4096_1_0_0_1_n_n none (extractStridedSlice S11264x64 ![0, 64] (amR codes s off) slices_S11264x128_S11264x64_0_64) (hotR (F := Ideal)) : FVec Ideal S11264x4096 .f32) (ix2 n k)) rfl ?_
  rw [spread_at, lookHi_at]
  refine congrArg _ (Eq.trans ?_ (amR_at codes s off n ⟨64 * 1 + k.val / 64, by omega⟩))
  pointwise

/-- The reference's product, entry by entry. -/
theorem outR_at (x : FVec Ideal S8x1x8192 .bf16) (w : IVec S11264x4096 8) (codes : IVec S11264x128 8) (s : FVec Ideal S5632 .f32) (off : FVec Ideal S_ .f32) (t : Fin 8) (n : Fin 11264) :
    outR (F := Ideal) x w codes s off (ix2 t n) = ∑ κ : Fin 4096, ∑ h : Fin 2, x (ix3 t 0 ⟨4096 * h.val + κ.val, by omega⟩) * wR w codes s off n κ h := by
  refine Eq.trans (b := (∑ κ : Fin 4096, x (ix3 t 0 ⟨κ.val, by omega⟩) * halfR (F := Ideal) (codeLo w) (extractStridedSlice S11264x64 ![0, 0] (amR codes s off) slices_S11264x128_S11264x64_0_0) (ix2 n κ))
    + ∑ κ : Fin 4096, x (ix3 t 0 ⟨4096 + κ.val, by omega⟩) * halfR (F := Ideal) (codeHi w) (extractStridedSlice S11264x64 ![0, 64] (amR codes s off) slices_S11264x128_S11264x64_0_64) (ix2 n κ)) ?_ ?_
  · pointwise [outR]
  · rw [← Finset.sum_add_distrib]
    refine Finset.sum_congr rfl fun κ _ => ?_
    rw [Fin.sum_univ_two, halfLo_at, halfHi_at]
    refine congrArg₂ (fun a b : EReal => a + b) ?_ ?_ <;> refine congrArg (fun z => x (ix3 t 0 z) * _) (Fin.ext ?_)
    · show κ.val = 4096 * 0 + κ.val
      omega
    · show 4096 + κ.val = 4096 * 1 + κ.val
      omega

/-- Equal arguments, equal products. -/
theorem outR_congr {x x' : FVec F S8x1x8192 .bf16} {w w' : IVec S11264x4096 8} {codes codes' : IVec S11264x128 8} {s s' : FVec F S5632 .f32} {off off' : FVec F S_ .f32}
    (hx : x = x') (hw : w = w') (hc : codes = codes') (hs : s = s') (ho : off = off') : outR x w codes s off = outR x' w' codes' s' off' := by
  rw [hx, hw, hc, hs, ho]

end Cert.ReferenceIdeal.Hand
-- ==== Proof.Value.lean ====
module

public import proofs.«01_k».proof.Proof.Rows
public import proofs.«01_k».proof.Proof.Reference
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The result array, by the arguments -/

variable (m : (ℓ : Loc nD τ sig) → Buf (Elt Ideal) ℓ)

theorem idx : ∀ t : Fin cfg0.N, win0_0.index t = ![0] ∧ win0_1.index t = ![0, 0] ∧ win0_2.index t = ![0, 0, 0] ∧ win0_3.index t = ![t.val, 0] ∧ win0_4.index t = ![t.val, 0] ∧ win0_5.index t = ![0, 0] :=
  (by decide +kernel : ∀ t : Fin grid0.N, _)

theorem cast_x (X : FVec Ideal S8x1x8192 .bf16) (t : Fin 8) (k : Fin 8192) : shapeCast S8x8192 X shapeCasts_S8x1x8192_S8x8192 (ix2 t k) = X (ix3 t 0 k) := by
  pointwise

theorem V_x (c : Dev nD) : (V m c main_v0 : Vec Ideal S8x8192 .bf16) = shapeCast S8x8192 (m ((c : Thread nD τ).loc main_arg0) : FVec Ideal S8x1x8192 .bf16) shapeCasts_S8x1x8192_S8x8192 := by
  entry_read
  rfl

theorem V_scale (c : Dev nD) : (V m c main_v1 : Vec Ideal S22x2x128 .f32) = shapeCast S22x2x128 (m ((c : Thread nD τ).loc main_arg3) : FVec Ideal S5632 .f32) shapeCasts_S5632_S22x2x128 := by
  entry_read
  rfl

theorem V_off (c : Dev nD) : (V m c main_v2 : Vec Ideal S1 .f32) = shapeCast S1 (m ((c : Thread nD τ).loc main_arg4) : FVec Ideal S_ .f32) shapeCasts_S_S1 := by
  entry_read
  rfl

theorem B0_at (c : Dev nD) (p : Fin cfg0.N) : B0 m c p (ix1 0) = (m ((c : Thread nD τ).loc main_arg4) : FVec Ideal S_ .f32) ix0 := by
  refine Eq.trans (b := (V m c main_v2 : Vec Ideal S1 .f32) (ix1 0)) ?_ ?_
  · unfold B0
    blk_ext [iblk, idx p]
  · rw [V_off]
    pointwise

theorem B1_at (c : Dev nD) (p : Fin cfg0.N) (t : Fin 8) (k : Fin 8192) : B1 m c p (ix2 t k) = (m ((c : Thread nD τ).loc main_arg0) : FVec Ideal S8x1x8192 .bf16) (ix3 t 0 k) := by
  refine Eq.trans (b := (V m c main_v0 : Vec Ideal S8x8192 .bf16) (ix2 t k)) ?_ ?_
  · unfold B1
    blk_ext [iblk, idx p]
  · rw [V_x]
    exact cast_x _ t k

theorem B2_at (c : Dev nD) (p : Fin cfg0.N) (i : Fin 22) (a : Fin 2) (l : Fin 128) : B2 m c p (ix3 i a l) = (m ((c : Thread nD τ).loc main_arg3) : FVec Ideal S5632 .f32) (ix1 ⟨256 * i.val + 128 * a.val + l.val, by omega⟩) := by
  refine Eq.trans (b := (V m c main_v1 : Vec Ideal S22x2x128 .f32) (ix3 i a l)) ?_ ?_
  · unfold B2
    blk_ext [iblk, idx p]
  · rw [V_scale]
    pointwise
    exact congrArg (m ((c : Thread nD τ).loc main_arg3) : FVec Ideal S5632 .f32) ((ix1_inj ..).2 (Fin.ext (by dsimp only; omega)))

theorem B3_at (c : Dev nD) (p : Fin cfg0.N) (q : Fin 11) (hq : p.val = q.val) (R : Fin 1024) (k : Fin 4096) : B3 m c p (ix2 R k) = (m ((c : Thread nD τ).loc main_arg1) : IVec S11264x4096 8) (ix2 ⟨1024 * q.val + R.val, by omega⟩ k) := by
  unfold B3
  blk_ext [iblk, V, idx p]

theorem B4_at (c : Dev nD) (p : Fin cfg0.N) (q : Fin 11) (hq : p.val = q.val) (R : Fin 1024) (k : Fin 128) : B4 m c p (ix2 R k) = (m ((c : Thread nD τ).loc main_arg2) : IVec S11264x128 8) (ix2 ⟨1024 * q.val + R.val, by omega⟩ k) := by
  unfold B4
  blk_ext [iblk, V, idx p]

theorem final (c : Dev nD) : (dats m 0 c).arrAt 5 (cfgs 0).N = outAt (F := Ideal) (Zval m c) := by
  refine (dats m 0 c).arrAt_eq_of_after_last 5 t0_10 (by decide +kernel) _ fun j => ?_
  blk_simp
  rw [after0_5]
  blk_ext [idx t0_10]

/-- The kernel's weights are the reference's. -/
theorem wAt_eq (c : Dev nD) (n : Fin 11264) (p : Fin cfg0.N) (q : Fin 11) (hp : p.val = q.val) (hq : q.val = n.val / 1024) (κ : Fin 4096) (h : Fin 2) :
    wAt (B0 m c p (ix1 0)) (B2 m c p) (B3 m c p) (B4 m c p) q ⟨n.val % 1024, by omega⟩ κ h
      = Cert.ReferenceIdeal.Hand.wR (m ((c : Thread nD τ).loc main_arg1)) (m ((c : Thread nD τ).loc main_arg2)) (m ((c : Thread nD τ).loc main_arg3)) (m ((c : Thread nD τ).loc main_arg4)) n κ h := by
  unfold wAt
  rw [B0_at, B2_at, B3_at m c p q hp, B4_at m c p q hp]
  have e : (⟨1024 * q.val + n.val % 1024, by omega⟩ : Fin 11264) = n := Fin.ext (by dsimp only; omega)
  have e' : (⟨256 * (2 * q.val + n.val % 1024 / 512) + 128 * (n.val % 1024 % 512 / 256) + n.val % 1024 % 256 / 2, by omega⟩ : Fin 5632) = ⟨n.val / 2, by omega⟩ := Fin.ext (by dsimp only; omega)
  dsimp only
  rw [e, e']
  rfl

/-- What the kernel writes is the reference's product. -/
theorem value (c : Dev nD) (t : Fin 8) (n : Fin 11264) : outAt (F := Ideal) (Zval m c) (ix2 t n)
    = Cert.ReferenceIdeal.Hand.outR (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 t n) := by
  refine (out_at m c t n).trans (Eq.trans ?_ (Cert.ReferenceIdeal.Hand.outR_at _ _ _ _ _ t n).symm)
  refine Finset.sum_congr rfl fun κ _ => Finset.sum_congr rfl fun h _ => ?_
  exact congrArg₂ (fun a b : EReal => a * b) (B1_at m c t0 t _) (wAt_eq m c n _ _ rfl rfl κ h)

theorem value_eq (c : Dev nD) : outAt (F := Ideal) (Zval m c)
    = Cert.ReferenceIdeal.Hand.outR (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  have hy : y = (ix2 (⟨(y 0).val, (y 0).isLt⟩ : Fin 8) (⟨(y 1).val, (y 1).isLt⟩ : Fin 11264) : S8x11264.Idx) := by
    funext a
    match a with
    | ⟨0, _⟩ => rfl
    | ⟨1, _⟩ => rfl
  rw [hy]
  exact value m c _ _

/-- The result array: the reference's product, rounded and reshaped. -/
theorem result (c : Dev nD) : Pipeline.afterTail₀ cfgs (dats m) 0 (V0 m) [hostOps1] c main_v4
    = shapeCast S8x1x11264 (Cert.ReferenceIdeal.Hand.outR (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S8x11264.Idx → EReal) shapeCasts_S8x11264_S8x1x11264 := by
  rw [← value_eq, ← final]
  have hw : Pipeline.withArrays (cfgs 0).spec c (V0 m c) (fun w => (dats m 0 c).arrAt w (cfgs 0).N) (Proc.devRef .tc main_v3)
      = (dats m 0 c).arrAt 5 (cfgs 0).N :=
    Pipeline.withArrays_arr (cfgs 0).spec (by intro a b h; revert a b; decide) c (V0 m c) (fun w => (dats m 0 c).arrAt w (cfgs 0).N) 5
  rw [← hw]
  unfold Pipeline.afterTail₀
  generalize Pipeline.withArrays (cfgs 0).spec c (V0 m c) (fun w => (dats m 0 c).arrAt w (cfgs 0).N) = V
  show StableHlo.after hostOps1 V (Proc.devRef .tc main_v4) = _
  unfold hostOps1
  rw [StableHlo.after_cons, StableHlo.after_nil]
  exact StableHlo.reshape_result' _ _ _ _ _
end Cert.KernelIdeal.Hand
-- ==== Proof.lean ====
/- The claims about the block-scaled four-bit linear kernel: the printed kernel, its idealization and the idealized
   reference terminate with their arguments unchanged and every counter at zero; the idealization is the printed kernel
   with the certified rewrites of packed bf16 words; the idealized kernel and the idealized reference end with the same
   result. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Body
public import proofs.«01_k».proof.Proof.KernelFrame
public import proofs.«01_k».proof.Proof.Value
public import Idealize.ShloMosaic.Lib.Claim
public import Idealize.ShloMosaic.Lib.Bf16PairInverse
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference is a straight-line host program that declares no semaphore. -/
theorem frame_ref : Cert.quiescent_ReferenceIdeal := fun m ρ _ =>
  (θ_run (Cert.ReferenceIdeal.defs (F := Ideal)) _ _).mono
    (fun r h => ⟨fun c => (h c).2, sem_eq_zero_of_no_sems rfl r.2⟩) (Cert.ReferenceIdeal.Value.run m ρ)

/-- The idealized program is the printed one with the certified rewrites of packed bf16 words. -/
theorem preserves : Cert.preserves_Kernel_KernelIdeal :=
  ⟨IdealRules.bf16_pair.bufferStatement _ _, IdealRules.bf16_pair.halfStatement _,
    IdealRules.bf16_pair.statement _ _, IdealRules.bf16_pair.statement _ _, IdealRules.bf16_pair.statement _ _⟩

/-- The idealized kernel and the idealized reference end with the same result. -/
theorem algebraic : Cert.algebraic_KernelIdeal_ReferenceIdeal := by
  pair_intro
  · run_from Cert.KernelIdeal.Hand.run_main m g
    · exact Cert.KernelIdeal.Gen.W_main_arg0 m _ c
    · exact Cert.KernelIdeal.Gen.W_main_arg3 m _ c
    · exact Cert.KernelIdeal.Gen.W_main_arg4 m _ c
  · run_from Cert.ReferenceIdeal.Value.run m' g'
    obtain ⟨h0, h1, h2, h3, h4⟩ := hagree c
    refine Eq.trans ?_ (Cert.KernelIdeal.Hand.result m c).symm
    rw [Cert.ReferenceIdeal.Hand.res_eq]
    exact congrArg (fun z => shapeCast Cert.ReferenceIdeal.S8x1x11264 z Cert.ReferenceIdeal.Gen.shapeCasts_S8x11264_S8x1x11264)
      (Eq.trans (b := Cert.ReferenceIdeal.Hand.outR (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4))) rfl
        (Cert.ReferenceIdeal.Hand.outR_congr (F := Ideal) (x := m' (c.tc.loc Cert.ReferenceIdeal.main_arg0)) (x' := m (c.tc.loc Cert.KernelIdeal.main_arg0)) (w := m' (c.tc.loc Cert.ReferenceIdeal.main_arg1)) (w' := m (c.tc.loc Cert.KernelIdeal.main_arg1)) (codes := m' (c.tc.loc Cert.ReferenceIdeal.main_arg2)) (codes' := m (c.tc.loc Cert.KernelIdeal.main_arg2)) (s := m' (c.tc.loc Cert.ReferenceIdeal.main_arg3)) (s' := m (c.tc.loc Cert.KernelIdeal.main_arg3)) (off := m' (c.tc.loc Cert.ReferenceIdeal.main_arg4)) (off' := m (c.tc.loc Cert.KernelIdeal.main_arg4)) h0 h1 h2 h3 h4))

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  frame_ref,
  preserves,
  algebraic⟩

end Cert.Proof

end
